-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x32 : Shape := ⟨2, ![131072, 32]⟩
abbrev S1024x32 : Shape := ⟨2, ![1024, 32]⟩
abbrev S32x1024 : Shape := ⟨2, ![32, 1024]⟩
abbrev S131072 : Shape := ⟨1, ![131072]⟩
abbrev S1x1 : Shape := ⟨2, ![1, 1]⟩
abbrev S_ : Shape := ⟨0, ![]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S1x1024x32 : Shape := ⟨3, ![1, 1024, 32]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S131072x32, .f32⟩
  | .hbm, ⟨1, _⟩ => ⟨S1024x32, .f32⟩
  | .hbm, ⟨2, _⟩ => ⟨S32x1024, .f32⟩
  | .hbm, ⟨3, _⟩ => ⟨S131072, .i32⟩
  | .hbm, ⟨4, _⟩ => ⟨S131072x32, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x32, .f32⟩
  | .local _ .vmem, ⟨1, _⟩ => ⟨S1024x32, .f32⟩
  | .local _ .vmem, ⟨2, _⟩ => ⟨S32x1024, .f32⟩
  | .local _ .vmem, ⟨3, _⟩ => ⟨S1024x32, .f32⟩
  | .local _ .vmem, ⟨4, _⟩ => ⟨S1024, .i32⟩
  | .local _ .vmem, ⟨5, _⟩ => ⟨S1024, .i32⟩
  | .local _ .vmem, ⟨6, _⟩ => ⟨S1024x32, .f32⟩
  | .local _ .vmem, ⟨7, _⟩ => ⟨S1024x32, .f32⟩
  | .local _ .vmem, ⟨8, _⟩ => ⟨S1x1, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_v0_1 : Ref sig .tc := ⟨.hbm, 4, rfl⟩
abbrev main_call0_v1_2 : Ref sig .tc := ⟨.hbm, 5, rfl⟩
abbrev main_call0_v2 : Ref sig .tc := ⟨.hbm, 6, rfl⟩
abbrev main_call0_cst : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S131072x32 : Shape := ⟨2, ![131072, 32]⟩
abbrev S1024x32 : Shape := ⟨2, ![1024, 32]⟩
abbrev S_ : Shape := ⟨0, ![]⟩
abbrev S131072 : Shape := ⟨1, ![131072]⟩
abbrev S131072x1 : Shape := ⟨2, ![131072, 1]⟩
abbrev S1024 : Shape := ⟨1, ![1024]⟩
abbrev S1x1024 : Shape := ⟨2, ![1, 1024]⟩
abbrev S131072x1024 : Shape := ⟨2, ![131072, 1024]⟩
abbrev S32x1024 : Shape := ⟨2, ![32, 1024]⟩
abbrev S1 : Shape := ⟨1, ![1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S1024x32, .f32⟩
  | .hbm, ⟨2, _⟩ => ⟨S131072x32, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S1024x32, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S131072x1024, .f32⟩
  | .hbm, ⟨11, _⟩ => ⟨S131072x1024, .f32⟩
  | .hbm, ⟨12, _⟩ => ⟨S131072x1024, .f32⟩
  | .hbm, ⟨13, _⟩ => ⟨S32x1024, .f32⟩
  | .hbm, ⟨14, _⟩ => ⟨S131072x1024, .f32⟩
  | .hbm, ⟨15, _⟩ => ⟨S_, .f32⟩
  | .hbm, ⟨16, _⟩ => ⟨S131072x1024, .f32⟩
  | .hbm, ⟨17, _⟩ => ⟨S131072x1024, .f32⟩
  | .hbm, ⟨18, _⟩ => ⟨S131072x1024, .f32⟩
  | .hbm, ⟨19, _⟩ => ⟨S131072x1024, .i32⟩
  | .hbm, ⟨20, _⟩ => ⟨S_, .f32⟩
  | .hbm, ⟨21, _⟩ => ⟨S_, .i32⟩
  | .hbm, ⟨22, _⟩ => ⟨S131072, .f32⟩
  | .hbm, ⟨23, _⟩ => ⟨S131072, .i32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S1, .i32⟩
  | .hbm, ⟨33, _⟩ => ⟨S_, .i32⟩
  | .hbm, ⟨34, _⟩ => ⟨S131072x1, .i32⟩
  | .hbm, ⟨35, _⟩ => ⟨S131072x1, .i1⟩
  | .hbm, ⟨36, _⟩ => ⟨S1x1, .i32⟩
  | .hbm, ⟨37, _⟩ => ⟨S131072x1, .i32⟩
  | .hbm, ⟨38, _⟩ => ⟨S131072x1, .i1⟩
  | .hbm, ⟨39, _⟩ => ⟨S131072x1, .i1⟩
  | .hbm, ⟨40, _⟩ => ⟨S_, .i1⟩
  | .hbm, ⟨41, _⟩ => ⟨S131072, .i1⟩
  | .hbm, ⟨42, _⟩ => ⟨S131072x32, .f32⟩
  | .hbm, ⟨43, _⟩ => ⟨S131072x32, .i1⟩
  | .hbm, ⟨44, _⟩ => ⟨S_, .f32⟩
  | .hbm, ⟨45, _⟩ => ⟨S131072x32, .f32⟩
  | .hbm, ⟨46, _⟩ => ⟨S131072x32, .f32⟩
  | .hbm, ⟨47, _⟩ => ⟨S131072x32, .f32⟩
  | .hbm, ⟨48, _⟩ => ⟨S131072x32, .f32⟩
  | .hbm, ⟨49, _⟩ => ⟨S131072x32, .f32⟩
  | .hbm, ⟨50, _⟩ => ⟨S131072x32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S131072x32, .f32⟩
  | .hbm, ⟨56, _⟩ => ⟨S131072x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩

abbrev nD : Nat := 1
abbrev τ : Topo := Topo.v7x

variable {F : FTy → Type} [FloatOps F]
-- ==== Proof.KerOut.lean ====
/- What the kernel's body leaves in its three output blocks at a grid point: the indices, the straight-through
   output, and the running sum of squared differences — at the first point started from zero, afterwards added to
   what the point before left. -/
module

public import proofs.«01_k».proof.Proof.Gen.KernelIdeal.Frame
public import Idealize.ShloMosaic.Lib.Pipeline.Value

@[expose] public section

set_option maxRecDepth 16384

noncomputable section

namespace Cert.KerOut

open Cert.KernelIdeal Cert.KernelIdeal.Gen
open Idealize.ShloMosaic Idealize.ShloMosaic.TcCoe Idealize.ShloMosaic.Tactic
open Idealize.SL Idealize.SL.Sem

variable {F : FTy → Type} [FloatOps F]

theorem off1 : (![0] : Fin 1 → Nat) = fun _ => 0 := funext fun a => by fin_cases a; rfl
theorem off2 : (![0, 0] : Fin 2 → Nat) = fun _ => 0 := funext fun a => by fin_cases a <;> rfl

section
variable (c : Dev nD) (i : grid0.Coords)
  (a1 : Memref sig .tc .vmem S1024x32 .f32) (h1 : a1.IsWhole) (a2 : Memref sig .tc .vmem S32x1024 .f32) (h2 : a2.IsWhole)
  (a3 : Memref sig .tc .vmem S1024x32 .f32) (h3 : a3.IsWhole) (a4 : Memref sig .tc .vmem S1024 .i32) (h4 : a4.IsWhole)
  (a5 : Memref sig .tc .vmem S1024x32 .f32) (h5 : a5.IsWhole) (a6 : Memref sig .tc .vmem S1x1 .f32) (h6 : a6.IsWhole)
  (x0 : Vec F S1024x32 .f32) (x1 : Vec F S32x1024 .f32) (x2 : Vec F S1024x32 .f32) (xo : Vec F S1x1 .f32)

/-- The indices left at the first point. -/
theorem outA3 (hc : cond0_0 i) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero (S := S1024) off1]
  simp only [View.readAt_eq_ld, h1.read_unread, h2.read_unread, h3.read_unread, View.ld_unit_zero (S := S1024x32) off2,
    View.ld_unit_zero (S := S32x1024) off2]

/-- The straight-through block left at the first point. -/
theorem outA4 (hc : cond0_0 i) :
    out0_A_4 c i a1 h1 a2 h2 a3 h3 a4 h4 a5 h5 a6 h6 hc x0 x1 x2 = k0_pay5 x0 x1 x2 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_unit_zero (S := S1024x32) off2]
  simp only [View.readAt_eq_ld, h1.read_unread, h2.read_unread, h3.read_unread, View.ld_unit_zero (S := S1024x32) off2,
    View.ld_unit_zero (S := S32x1024) off2]

/-- The running sum left at the first point: the block's sum added to zero. -/
theorem outA5 (hc : cond0_0 i) :
    out0_A_5 c i a1 h1 a2 h2 a3 h3 a4 h4 a5 h5 a6 h6 hc x0 x1 x2 = k0_pay2 (k0_pay6 x0 x1 x2) k0_pay1 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x1) off2, View.readCov_unit_zero (S := S1x1) _ off2]
  simp only [View.readAt_eq_ld, h1.read_unread, h2.read_unread, h3.read_unread, View.ld_unit_zero (S := S1024x32) off2,
    View.ld_unit_zero (S := S32x1024) off2]

/-- The indices left at a later point. -/
theorem outB3 (hc : ¬cond0_0 i) :
    out0_B_3 c i a1 h1 a2 h2 a3 h3 a4 h4 a5 h5 a6 h6 hc x0 x1 x2 xo = k0_pay3 x0 x1 x2 := by
  unfold out0_B_3
  rw [View.read_writes_eq_canon _ _ _ (cover0_B_3 c i a1 h1 a2 h2 a3 h3 a4 h4 a5 h5 a6 h6 hc x0 x1 x2 xo)]
  unfold kernelRun0_B
  dsimp only
  sl_unfold_words
  rw [View.canon_unit_zero (S := S1024) off1]
  simp only [View.readAt_eq_ld, h1.read_unread, h2.read_unread, h3.read_unread, View.ld_unit_zero (S := S1024x32) off2,
    View.ld_unit_zero (S := S32x1024) off2]

/-- The straight-through block left at a later point. -/
theorem outB4 (hc : ¬cond0_0 i) :
    out0_B_4 c i a1 h1 a2 h2 a3 h3 a4 h4 a5 h5 a6 h6 hc x0 x1 x2 xo = k0_pay5 x0 x1 x2 := by
  unfold out0_B_4
  rw [View.read_writes_eq_canon _ _ _ (cover0_B_4 c i a1 h1 a2 h2 a3 h3 a4 h4 a5 h5 a6 h6 hc x0 x1 x2 xo)]
  unfold kernelRun0_B
  dsimp only
  sl_unfold_words
  rw [View.canon_unit_zero (S := S1024x32) off2]
  simp only [View.readAt_eq_ld, h1.read_unread, h2.read_unread, h3.read_unread, View.ld_unit_zero (S := S1024x32) off2,
    View.ld_unit_zero (S := S32x1024) off2]

/-- The running sum left at a later point: the block's sum added to what the point before left. -/
theorem outB5 (hc : ¬cond0_0 i) :
    out0_B_5 c i a1 h1 a2 h2 a3 h3 a4 h4 a5 h5 a6 h6 hc x0 x1 x2 xo = k0_pay2 (k0_pay6 x0 x1 x2) xo := by
  unfold out0_B_5
  rw [View.read_writes_eq_canon _ _ _ (cover0_B_5 c i a1 h1 a2 h2 a3 h3 a4 h4 a5 h5 a6 h6 hc x0 x1 x2 xo)]
  unfold kernelRun0_B
  dsimp only
  sl_unfold_words
  rw [View.canon_unit_zero (S := S1x1) off2]
  simp only [View.readAt_eq_ld, h1.read_unread, h2.read_unread, h3.read_unread, h6.read_unread,
    View.ld_unit_zero (S := S1024x32) off2, View.ld_unit_zero (S := S32x1024) off2, View.ld_unit_zero (S := S1x1) off2]

end

variable (m : (ℓ : Loc nD τ sig) → Buf (Elt F) ℓ)

/-- After every point the first output block holds the block's indices. -/
theorem outsAt_1 (c : Dev nD) (t : Fin cfg0.N) :
    (outsAt0 m c t.val t.isLt).1 = k0_pay3 (iblk m c 0 t) (iblk m c 1 t) (iblk m c 2 t) := by
  by_cases h : t.val % 128 = 0
  · rw [outsAt0_A m c t h]; dsimp only; exact outA3 (F := F) ..
  · rw [outsAt0_B m c t h]; dsimp only; exact outB3 (F := F) ..

/-- After every point the second output block holds the block's straight-through output. -/
theorem outsAt_2 (c : Dev nD) (t : Fin cfg0.N) :
    (outsAt0 m c t.val t.isLt).2.1 = k0_pay5 (iblk m c 0 t) (iblk m c 1 t) (iblk m c 2 t) := by
  by_cases h : t.val % 128 = 0
  · rw [outsAt0_A m c t h]; dsimp only; exact outA4 (F := F) ..
  · rw [outsAt0_B m c t h]; dsimp only; exact outB4 (F := F) ..

/-- After the first point the third output block holds the block's sum added to zero. -/
theorem outsAt_3_zero (c : Dev nD) (h : 0 < cfg0.N) :
    (outsAt0 m c 0 h).2.2 = k0_pay2 (k0_pay6 (iblk m c 0 ⟨0, h⟩) (iblk m c 1 ⟨0, h⟩) (iblk m c 2 ⟨0, h⟩)) k0_pay1 := by
  have e := outsAt0_A m c ⟨0, h⟩ rfl
  dsimp only at e
  rw [e]; dsimp only; exact outA5 (F := F) ..

/-- After a later point it holds the block's sum added to what the point before left. -/
theorem outsAt_3_succ (c : Dev nD) (n : ℕ) (h : n + 1 < cfg0.N) :
    (outsAt0 m c (n + 1) h).2.2
      = k0_pay2 (k0_pay6 (iblk m c 0 ⟨n + 1, h⟩) (iblk m c 1 ⟨n + 1, h⟩) (iblk m c 2 ⟨n + 1, h⟩))
          (outsAt0 m c n (Nat.lt_of_succ_lt h)).2.2 := by
  have hN : cfg0.N = 128 := N_0
  have hB : ¬(⟨n + 1, h⟩ : Fin cfg0.N).val % 128 = 0 := by dsimp only; omega
  have e := outsAt0_B m c ⟨n + 1, h⟩ hB
  dsimp only at e
  rw [e]; dsimp only; exact outB5 (F := F) ..

end Cert.KerOut

end
-- ==== Proof.Spec.lean ====
/- The problem's mathematics on the extended reals, free of any array layout: the squared distance of two
   vectors, the first index at which a row of values is least, and the facts about them that both programs'
   readings use. -/
module

public import Mathlib.Data.EReal.Inv
public import Mathlib.Algebra.BigOperators.Fin
public import Mathlib.Data.Fintype.Lattice
public import Mathlib.Data.Prod.Lex
public import Mathlib.Tactic.Ring
public import Mathlib.Tactic.NormNum

@[expose] public section

noncomputable section

namespace Cert.Spec

open scoped BigOperators

/-- The squared distance of two vectors by its expansion: `|x|² + |c|² − t·(x · c)`, `t` the programs'
    literal 2. -/
def dist {n : Nat} (t : EReal) (x c : Fin n → EReal) : EReal :=
  ((∑ e, x e * x e) + ∑ e, c e * c e) - t * ∑ e, x e * c e

/-- `k` is the first index at which `d` is least: every other entry is greater, or equal and not before `k`. -/
def IsFirstMin {n : Nat} (d : Fin n → EReal) (k : Fin n) : Prop :=
  ∀ j, d k < d j ∨ (d k = d j ∧ k ≤ j)

/-- There is at most one first index of the least value. -/
theorem IsFirstMin.unique {n : Nat} {d : Fin n → EReal} {k l : Fin n} (hk : IsFirstMin d k) (hl : IsFirstMin d l) :
    k = l := by
  rcases hk l with h | ⟨e, h⟩
  · rcases hl k with h' | ⟨e', _⟩
    · exact absurd h (lt_asymm h')
    · exact absurd e' h.ne'
  · rcases hl k with h' | ⟨_, h'⟩
    · exact absurd e h'.ne'
    · exact le_antisymm h h'

/-- A row with at least one entry has a first index of the least value. -/
theorem exists_isFirstMin {n : Nat} (hn : 0 < n) (d : Fin n → EReal) : ∃ k, IsFirstMin d k := by
  haveI : Nonempty (Fin n) := ⟨⟨0, hn⟩⟩
  obtain ⟨k, hk⟩ := Finite.exists_min (fun j : Fin n => toLex (d j, j))
  refine ⟨k, fun j => ?_⟩
  have h := hk j
  rw [Prod.Lex.le_iff] at h
  simpa using h

/-- The first index at which a row of 1024 values is least. -/
def firstMin (d : Fin 1024 → EReal) : Fin 1024 := (exists_isFirstMin (by decide) d).choose

/-- It is that index. -/
theorem firstMin_spec (d : Fin 1024 → EReal) : IsFirstMin d (firstMin d) :=
  (exists_isFirstMin (by decide) d).choose_spec

/-- Whatever index is first among the least is `firstMin`. -/
theorem IsFirstMin.eq_firstMin {d : Fin 1024 → EReal} {k : Fin 1024} (h : IsFirstMin d k) : k = firstMin d :=
  h.unique (firstMin_spec d)

/-- A difference and its reverse have one square, at the infinities too. -/
theorem sub_mul_sub_comm (a b : EReal) : (a - b) * (a - b) = (b - a) * (b - a) := by
  induction a using EReal.rec <;> induction b using EReal.rec <;> first
    | rfl
    | (norm_cast; ring)
    | simp

/-- A sum that picks one term by a 0/1 factor is that term. -/
theorem sum_pick {n : Nat} (w v : Fin n → EReal) (z : Fin n) (h1 : w z = 1) (h0 : ∀ k, k ≠ z → w k = 0) :
    ∑ k, w k * v k = v z := by
  rw [Finset.sum_eq_single z]
  · rw [h1, one_mul]
  · intro k _ hk; rw [h0 k hk, zero_mul]
  · intro h; exact absurd (Finset.mem_univ z) h

end Cert.Spec

end
-- ==== Proof.ArgMin.lean ====
/- Two ways a program finds the first index of a row's least value, both read as `Spec.firstMin`: the
   host's fold over (value, index) pairs by its arg-min body, and a kernel's minimum of the values followed by
   the minimum of the indices at which it is attained. Values are extended reals, indices 32-bit words. -/
module

public import proofs.«01_k».proof.Proof.Spec
public import proofs.«01_k».proof.ReferenceIdeal
public import Idealize.ShloMosaic.PureOps.Reduce
public import Idealize.ShloMosaic.PureOps.Ideal.Laws
public import Idealize.ShloMosaic.Lib.SortNet.Extract
public import Idealize.ShloMosaic.Lib.ValueIdx

@[expose] public section

noncomputable section

namespace Cert.ArgMin

open Idealize.ShloMosaic Cert.Spec
open scoped BigOperators

/-- The word of an index below 1024, read signed, is the index. -/
theorem toInt_index (k : Fin 1024) : (BitVec.ofNat 32 k.val).toInt = k.val := by
  have := k.isLt
  rw [BitVec.toInt_eq_toNat_cond, BitVec.toNat_ofNat, Nat.mod_eq_of_lt (by omega)]
  rw [if_pos (by omega)]

/-- Indices below 1024 with one word are one index. -/
theorem index_inj {k l : Fin 1024} (h : BitVec.ofNat 32 k.val = BitVec.ofNat 32 l.val) : k = l := by
  have := congrArg BitVec.toInt h
  rw [toInt_index, toInt_index] at this
  exact Fin.ext (by exact_mod_cast this)

/-! ### The host's fold -/

/-- `p` comes before `q`: its value is less, or equal with an index no greater. -/
def Before (p q : EReal × BitVec 32) : Prop := p.1 < q.1 ∨ (p.1 = q.1 ∧ p.2.toInt ≤ q.2.toInt)

theorem Before.refl (p : EReal × BitVec 32) : Before p p := Or.inr ⟨rfl, le_refl _⟩

theorem Before.trans {p q r : EReal × BitVec 32} (h : Before p q) (h' : Before q r) : Before p r := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- The host's arg-min body keeps the first pair where it is strictly before the second, else the second. -/
theorem body_eq (a b : EReal × BitVec 32) :
    Cert.ReferenceIdeal.reducer_argmin_f32_i32 (F := Ideal) a b
      = if a.1 < b.1 ∨ (a.1 = b.1 ∧ a.2.toInt < b.2.toInt) then a else b := by
  obtain ⟨a1, a2⟩ := a
  obtain ⟨b1, b2⟩ := b
  unfold Cert.ReferenceIdeal.reducer_argmin_f32_i32
  simp only [Ideal.cmpf_def, Ideal.cmp]
  by_cases h1 : a1 < b1
  · simp [h1, h1.ne, IntOp.ori, Scalar.select, IntOp.andi]
  · by_cases h2 : a1 = b1
    · subst h2
      by_cases h3 : a2.toInt < b2.toInt
      · have : a2.slt b2 = true := decide_eq_true h3
        simp [IntOp.ori, Scalar.select, IntOp.andi, IntOp.cmpi, h3, this]
      · have : a2.slt b2 = false := decide_eq_false h3
        simp [IntOp.ori, Scalar.select, IntOp.andi, IntOp.cmpi, h3, this]
    · simp [IntOp.ori, Scalar.select, IntOp.andi, h1, h2]

/-- So its result is one of the two pairs, and before both. -/
theorem body_spec (a b : EReal × BitVec 32) :
    let r := Cert.ReferenceIdeal.reducer_argmin_f32_i32 (F := Ideal) a b
    (r = a ∨ r = b) ∧ Before r a ∧ Before r b := by
  intro r
  have hr : r = if a.1 < b.1 ∨ (a.1 = b.1 ∧ a.2.toInt < b.2.toInt) then a else b := body_eq a b
  by_cases h : a.1 < b.1 ∨ (a.1 = b.1 ∧ a.2.toInt < b.2.toInt)
  · rw [if_pos h] at hr
    rw [hr]
    exact ⟨Or.inl rfl, Before.refl a, h.imp id fun h => ⟨h.1, h.2.le⟩⟩
  · rw [if_neg h] at hr
    rw [hr]
    refine ⟨Or.inr rfl, ?_, Before.refl b⟩
    rw [not_or, not_and, not_lt, not_lt] at h
    rcases lt_or_eq_of_le h.1 with h' | h'
    · exact Or.inl h'
    · exact Or.inr ⟨h', h.2 h'.symm⟩

/-- The fold of the body over a list is the start or a member, and before the start and every member. -/
theorem fold_spec (L : List (EReal × BitVec 32)) (a : EReal × BitVec 32) :
    let r := L.foldl (Cert.ReferenceIdeal.reducer_argmin_f32_i32 (F := Ideal)) a
    (r = a ∨ r ∈ L) ∧ Before r a ∧ ∀ q ∈ L, Before r q := by
  induction L generalizing a with
  | nil => exact ⟨Or.inl rfl, Before.refl a, fun q hq => absurd hq List.not_mem_nil⟩
  | cons b L ih =>
    intro r
    obtain ⟨hm, hb, hall⟩ := ih (Cert.ReferenceIdeal.reducer_argmin_f32_i32 (F := Ideal) a b)
    obtain ⟨sm, sa, sb⟩ := body_spec a b
    refine ⟨?_, hb.trans sa, ?_⟩
    · rcases hm with h | h
      · rcases sm with s | s
        · exact Or.inl (h.trans s)
        · exact Or.inr (by rw [show r = b from h.trans s]; exact List.mem_cons_self)
      · exact Or.inr (List.mem_cons_of_mem _ h)
    · intro q hq
      rcases List.mem_cons.1 hq with e | hq
      · rw [e]; exact hb.trans sb
      · exact hall q hq

/-- Over a list whose members are exactly the pairs (value at k, word of k), from the pair (+∞, 0), the fold's
    index is the first index of the least value. -/
theorem fold_index (d : Fin 1024 → EReal) (L : List (EReal × BitVec 32))
    (hL : ∀ p, p ∈ L ↔ ∃ k : Fin 1024, p = (d k, BitVec.ofNat 32 k.val)) :
    (L.foldl (Cert.ReferenceIdeal.reducer_argmin_f32_i32 (F := Ideal)) (⊤, 0#32)).2
      = BitVec.ofNat 32 (firstMin d).val := by
  obtain ⟨hm, _, hall⟩ := fold_spec L (⊤, 0#32)
  generalize L.foldl (Cert.ReferenceIdeal.reducer_argmin_f32_i32 (F := Ideal)) (⊤, 0#32) = r at hm hall ⊢
  have key : ∃ k : Fin 1024, r.1 = d k ∧ r.2 = BitVec.ofNat 32 k.val := by
    rcases hm with h | h
    · refine ⟨0, ?_, by rw [h]; rfl⟩
      rcases hall _ ((hL _).2 ⟨0, rfl⟩) with h' | ⟨h', _⟩
      · rw [h] at h'; exact absurd h' not_top_lt
      · exact h'
    · obtain ⟨k, hk⟩ := (hL r).1 h
      exact ⟨k, by rw [hk], by rw [hk]⟩
  obtain ⟨k, h1, h2⟩ := key
  have hk : IsFirstMin d k := fun j => by
    rcases hall _ ((hL _).2 ⟨j, rfl⟩) with h | ⟨e, h⟩
    · exact Or.inl (h1 ▸ h)
    · refine Or.inr ⟨h1 ▸ e, ?_⟩
      rw [h2, toInt_index, toInt_index] at h
      exact Fin.le_def.2 (by exact_mod_cast h)
  rw [h2, hk.eq_firstMin]

/-- The pairs an arg-min folds over at a result index are those of the source indices that reduce to it. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- Over one axis: those of the result index with each coordinate of that axis inserted. -/
theorem mem_fiber_single {s t : Shape} {a : Fin s.rank} {α β : Type} (x : s.Idx → α) (y : s.Idx → β)
    (h : s.ReducesTo [a] t) (h' : s.Reduces [a] t) (j : t.Idx) (p : α × β) :
    p ∈ Host.argReduceFiber x y h j ↔ ∃ k, p = (x (h'.lift j k), y (h'.lift j k)) := by
  rw [mem_fiber, Shape.ReducesTo.drop_eq_drop h h']
  constructor
  · rintro ⟨i, hi, rfl⟩
    exact ⟨i a, by rw [← hi, h'.lift_drop]⟩
  · rintro ⟨k, rfl⟩
    exact ⟨_, h'.drop_lift j k, rfl⟩

/-- The literal the host starts from is +∞. -/
theorem ofBits_inf : Ideal.ofBits .f32 0x7F800000#32 = ⊤ := by
  simp [Ideal.ofBits, Ideal.ieee]

/-- The index an arg-min over one axis of extent 1024 finds, started at (+∞, 0), is the first index of the least
    value, the pairs along that axis being (value at k, word of k). -/
theorem argReduce_index {s t u : Shape} {a : Fin s.rank} (x : FVec Ideal s .f32) (y : IVec s 32)
    (ix : FVec Ideal u .f32) (iy : IVec u 32) (h : s.ReducesTo [a] t) (hu : 0 < u.numel) (h' : s.Reduces [a] t)
    (j : t.Idx) (d : Fin 1024 → EReal) (hix : ix (Shape.Idx.first hu) = (⊤ : EReal)) (hiy : iy (Shape.Idx.first hu) = 0#32)
    (hs : s.size a = 1024) (hx : ∀ k : Fin (s.size a), x (h'.lift j k) = d (k.cast hs))
    (hy : ∀ k : Fin (s.size a), y (h'.lift j k) = BitVec.ofNat 32 k.val) :
    (Host.argReduce (Cert.ReferenceIdeal.reducer_argmin_f32_i32 (F := Ideal)) x y ix iy h hu j).2
      = BitVec.ofNat 32 (firstMin d).val := by
  rw [Ideal.argReduce_eq_reduce2, Host.reduce2_eq_foldl_fiber, hix, hiy]
  refine fold_index d _ fun p => (mem_fiber_single x y h h' j p).trans ⟨?_, ?_⟩
  · rintro ⟨k, rfl⟩
    exact ⟨k.cast hs, by rw [hx, hy]; rfl⟩
  · rintro ⟨k, rfl⟩
    exact ⟨k.cast hs.symm, by rw [hx, hy]; rfl⟩

/-- A conjunction over one axis of extent 1, started at 1, is its one entry's. -/
theorem reduce_and_unit {s t u : Shape} {a : Fin s.rank} (x : IVec s 1) (v : IVec u 1) (h : s.ReducesTo [a] t)
    (hu : 0 < u.numel) (h' : s.Reduces [a] t) (j : t.Idx) (hv : v (Shape.Idx.first hu) = 1#1)
    (hx : ∀ k : Fin (s.size a), x (h'.lift j k) = 1#1) :
    Host.reduce IntOp.andi x v h hu j = 1#1 := by
  rw [Host.reduce_eq_fold_single IntOp.andi _ _ h h', hv]
  have key : ∀ S : Finset (Fin (s.size a)), S.fold IntOp.andi 1#1 (x ∘ h'.lift j) = 1#1 := fun S => by
    induction S using Finset.induction_on with
    | empty => rfl
    | insert k S hk ih => rw [Finset.fold_insert hk, ih, Function.comp_apply, hx]; rfl
  exact key _

/-! ### The kernel's two minima -/

/-- The minimum of a row from +∞ is the value at the first index of the least value. -/
theorem fold_min_eq (d : Fin 1024 → EReal) : Finset.univ.fold min ⊤ d = d (firstMin d) := by
  apply le_antisymm
  · exact Finset.fold_min_le _ |>.2 (Or.inr ⟨firstMin d, Finset.mem_univ _, le_refl _⟩)
  · refine Finset.le_fold_min _ |>.2 ⟨le_top, fun j _ => ?_⟩
    rcases firstMin_spec d j with h | ⟨h, _⟩
    · exact h.le
    · exact h.le

instance : Std.Commutative (IntOp.minsi (w := 32)) :=
  ⟨fun a b => BitVec.eq_of_toInt_eq (by
    rw [Idealize.ShloMosaic.SortNet.toInt_minsi, Idealize.ShloMosaic.SortNet.toInt_minsi, min_comm])⟩
instance : Std.Associative (IntOp.minsi (w := 32)) :=
  ⟨fun a b c => BitVec.eq_of_toInt_eq (by
    simp only [Idealize.ShloMosaic.SortNet.toInt_minsi, min_assoc])⟩

/-- The least of the indices at which the row's minimum is attained (1024 standing for the others), from the
    greatest signed word, is the first index of the least value. -/
theorem fold_minsi_eq (d : Fin 1024 → EReal) (g : Fin 1024 → BitVec 32)
    (hg : ∀ j, g j = if d j = d (firstMin d) then BitVec.ofNat 32 j.val else 1024#32) :
    Finset.univ.fold IntOp.minsi 2147483647#32 g = BitVec.ofNat 32 (firstMin d).val := by
  apply BitVec.eq_of_toInt_eq
  have hom : (Finset.univ.fold IntOp.minsi 2147483647#32 g).toInt
      = Finset.univ.fold min (2147483647#32 : BitVec 32).toInt fun j => (g j).toInt :=
    (Finset.fold_hom (op := IntOp.minsi) (op' := min) (m := BitVec.toInt)
      Idealize.ShloMosaic.SortNet.toInt_minsi).symm
  rw [hom, toInt_index]
  have hlt := (firstMin d).isLt
  apply le_antisymm
  · refine Finset.fold_min_le _ |>.2 (Or.inr ⟨firstMin d, Finset.mem_univ _, ?_⟩)
    rw [hg, if_pos rfl, toInt_index]
  · refine Finset.le_fold_min _ |>.2 ⟨?_, fun j _ => ?_⟩
    · rw [show (2147483647#32 : BitVec 32).toInt = 2147483647 by decide]
      omega
    · rw [hg]
      by_cases h : d j = d (firstMin d)
      · rw [if_pos h, toInt_index]
        rcases firstMin_spec d j with h' | ⟨_, h'⟩
        · exact absurd h h'.ne'
        · exact_mod_cast Fin.le_def.1 h'
      · rw [if_neg h, show (1024#32 : BitVec 32).toInt = 1024 by decide]
        omega

end Cert.ArgMin

end
-- ==== Proof.KerBlock.lean ====
/- What the kernel computes from one block of 1024 points, on the extended reals: the table of the block's
   distances, the index of the nearest codeword of each of its points, that codeword as a product with a one-hot
   table, the straight-through output, and the block's sum of squared differences. -/
module

public import proofs.«01_k».proof.Proof.Gen.KernelIdeal.Skeleton
public import proofs.«01_k».proof.Proof.ArgMin
public import Idealize.ShloMosaic.Lib.ValueIdx
public import Idealize.ShloMosaic.Lib.Pipeline.Value

@[expose] public section

noncomputable section

namespace Cert.KerBlock

open Cert.KernelIdeal Cert.KernelIdeal.Gen Cert.Spec Cert.ArgMin
open Idealize.ShloMosaic
open Idealize.ShloMosaic.ValueIdx
open scoped BigOperators

/-- The program's literal 2 as an extended real. -/
abbrev two : EReal := Ideal.ofBits .f32 0x40000000#32

/-- Row `r` of a block of 1024 rows. -/
abbrev row (v : Vec Ideal S1024x32 .f32) (r : Fin 1024) : Fin 32 → EReal := fun e => v (ix2 r e)

/-- The distances of row `r` of the points to all rows of the codebook. -/
abbrev dists (v0 v3 : Vec Ideal S1024x32 .f32) (r : Fin 1024) : Fin 1024 → EReal :=
  fun k => dist two (row v0 r) (row v3 k)

/-! ### Layout operations at an index -/

/-- A column of one entry per row, read at row r. -/
theorem column_apply {α : Type} (y : S1024.Idx → α) (r : Fin 1024) :
    shapeCast S1024x1 y shapeCasts_S1024_S1024x1 (ix2 r (0 : Fin 1)) = y (ix1 r) := by
  refine shapeCast_apply y _ _ _ ?_
  rw [Shape.rowMajor_val_two, Shape.rowMajor_val_one]
  show r.val = r.val * 1 + 0
  omega

/-- A row of one entry per column, read at column k. -/
theorem rowvec_apply {α : Type} (y : S1024.Idx → α) (k : Fin 1024) :
    shapeCast S1x1024 y shapeCasts_S1024_S1x1024 (ix2 (0 : Fin 1) k) = y (ix1 k) := by
  refine shapeCast_apply y _ _ _ ?_
  rw [Shape.rowMajor_val_two, Shape.rowMajor_val_one]
  show k.val = 0 * 1024 + k.val
  omega

/-- A column repeated along the rows of a square table. -/
theorem along_apply {α : Type} (y : S1024.Idx → α) (r k : Fin 1024) :
    broadcastTo S1024x1024 (shapeCast S1024x1 y shapeCasts_S1024_S1024x1) broadcasts_S1024x1_S1024x1024 (ix2 r k)
      = y (ix1 r) :=
  (broadcastTo_apply _ broadcasts_S1024x1_S1024x1024 (ix2 r k) (ix2 r (0 : Fin 1)) (fun a => match a with
    | ⟨0, _⟩ => by show r.val = if (1024 : Nat) = 1 then 0 else r.val; rw [if_neg (by decide)]
    | ⟨1, _⟩ => by show 0 = if (1 : Nat) = 1 then 0 else k.val; rw [if_pos rfl])).trans (column_apply y r)

/-- A row repeated down the columns of a square table. -/
theorem down_apply {α : Type} (y : S1024.Idx → α) (r k : Fin 1024) :
    broadcastTo S1024x1024 (shapeCast S1x1024 y shapeCasts_S1024_S1x1024) broadcasts_S1x1024_S1024x1024 (ix2 r k)
      = y (ix1 k) :=
  (broadcastTo_apply _ broadcasts_S1x1024_S1024x1024 (ix2 r k) (ix2 (0 : Fin 1) k) (fun a => match a with
    | ⟨0, _⟩ => by show 0 = if (1 : Nat) = 1 then 0 else r.val; rw [if_pos rfl]
    | ⟨1, _⟩ => by show k.val = if (1024 : Nat) = 1 then 0 else k.val; rw [if_neg (by decide)])).trans (rowvec_apply y k)

/-! ### The table of distances -/

/-- The sum of squares of each row. -/
def rowSq (v : FVec Ideal S1024x32 .f32) : FVec Ideal S1024 .f32 :=
  multiReduction .add [1] S1024 (mulf v v) 0x00000000#32 reduces_S1024x32_S1024 (.inl rfl) rfl

/-- At row r it is that row's. -/
theorem rowSq_apply (v : FVec Ideal S1024x32 .f32) (r : Fin 1024) : rowSq v (ix1 r) = ∑ e, row v r e * row v r e := by
  unfold rowSq
  refine (Ideal.multiReduction_add_single (a := 1) (mulf v v) _ reduces_S1024x32_S1024 _ _ (ix1 r)).trans ?_
  refine Finset.sum_congr rfl fun e _ => ?_
  exact congrArg (fun j => v j * v j) (funext fun a => Fin.ext (by match a with | ⟨0, _⟩ => rfl | ⟨1, _⟩ => rfl))

/-- The inner products of the points with the columns of the transposed codebook. -/
def scores (v0 : FVec Ideal S1024x32 .f32) (v1 : FVec Ideal S32x1024 .f32) : FVec Ideal S1024x1024 .f32 :=
  matmul dot_S1024x32_S32x1024_S1024x1024_1_0_0_1_n_n none v0 (shapeCast S32x1024 v1 shapeCasts_S32x1024_S32x1024)
    (constant S1024x1024 .f32 0x00000000#32)

/-- At (r, k): row r of the points times column k. -/
theorem scores_apply (v0 : FVec Ideal S1024x32 .f32) (v1 : FVec Ideal S32x1024 .f32) (r k : Fin 1024) :
    scores v0 v1 (ix2 r k) = ∑ e : Fin 32, v0 (ix2 r e) * v1 (ix2 e k) := by
  unfold scores
  rw [shapeCast_self]
  refine (Ideal.matmul_constant_zero_apply dot_S1024x32_S32x1024_S1024x1024_1_0_0_1_n_n none v0 v1 (ix2 r k)).trans ?_
  rw [← Equiv.sum_comp (contrEquiv1 dot_S1024x32_S32x1024_S1024x1024_1_0_0_1_n_n 32 rfl rfl).symm]
  refine Finset.sum_congr rfl fun e _ => ?_
  have he := contrEquiv1_symm_val dot_S1024x32_S32x1024_S1024x1024_1_0_0_1_n_n 32 rfl rfl e
  have el : dot_S1024x32_S32x1024_S1024x1024_1_0_0_1_n_n.lhsIdx (ix2 r k)
      ((contrEquiv1 dot_S1024x32_S32x1024_S1024x1024_1_0_0_1_n_n 32 rfl rfl).symm e) = ix2 r e := funext fun a => Fin.ext (by
    match a with
    | ⟨0, _⟩ =>
      show (dot_S1024x32_S32x1024_S1024x1024_1_0_0_1_n_n.lhsIdx _ _ 0).val = r.val
      unfold DotDims.lhsIdx
      rw [dif_neg (show ¬(0 : Fin S1024x32.rank) ∈ dot_S1024x32_S32x1024_S1024x1024_1_0_0_1_n_n.lhsBatch by decide),
        dif_pos (show (0 : Fin S1024x32.rank) ∈ dot_S1024x32_S32x1024_S1024x1024_1_0_0_1_n_n.lhsNonContracting by decide)]
      rfl
    | ⟨1, _⟩ => exact (DotDims.lhsIdx_val_of_single _ rfl _ _).trans he)
  have er : dot_S1024x32_S32x1024_S1024x1024_1_0_0_1_n_n.rhsIdx (ix2 r k)
      ((contrEquiv1 dot_S1024x32_S32x1024_S1024x1024_1_0_0_1_n_n 32 rfl rfl).symm e) = ix2 e k := funext fun a => Fin.ext (by
    match a with
    | ⟨0, _⟩ => exact (DotDims.rhsIdx_val_of_single _ rfl _ _).trans he
    | ⟨1, _⟩ =>
      show (dot_S1024x32_S32x1024_S1024x1024_1_0_0_1_n_n.rhsIdx _ _ 1).val = k.val
      unfold DotDims.rhsIdx
      rw [dif_neg (show ¬(1 : Fin S32x1024.rank) ∈ dot_S1024x32_S32x1024_S1024x1024_1_0_0_1_n_n.rhsBatch by decide),
        dif_pos (show (1 : Fin S32x1024.rank) ∈ dot_S1024x32_S32x1024_S1024x1024_1_0_0_1_n_n.rhsNonContracting by decide)]
      rfl)
  rw [el, er]

/-- The block's table of distances, as the kernel computes it. -/
def table (v0 : FVec Ideal S1024x32 .f32) (v1 : FVec Ideal S32x1024 .f32) (v3 : FVec Ideal S1024x32 .f32) :
    FVec Ideal S1024x1024 .f32 :=
  subf (addf (broadcastTo S1024x1024 (shapeCast S1024x1 (rowSq v0) shapeCasts_S1024_S1024x1) broadcasts_S1024x1_S1024x1024)
      (broadcastTo S1024x1024 (shapeCast S1x1024 (rowSq v3) shapeCasts_S1024_S1x1024) broadcasts_S1x1024_S1024x1024))
    (mulf (broadcast S1024x1024 (Scalar.ofBits .f32 0x40000000#32)) (scores v0 v1))

/-- Where `v1` is the transpose of `v3`, its entry (r, k) is the distance of row r of the points and codeword k. -/
theorem table_apply (v0 : FVec Ideal S1024x32 .f32) (v1 : FVec Ideal S32x1024 .f32) (v3 : FVec Ideal S1024x32 .f32)
    (ht : ∀ e k, v1 (ix2 e k) = v3 (ix2 k e)) (r k : Fin 1024) :
    table v0 v1 v3 (ix2 r k) = dists v0 v3 r k := by
  unfold table
  rw [subf_apply, addf_apply, mulf_apply, along_apply, down_apply, scores_apply, rowSq_apply, rowSq_apply]
  simp only [ht]
  rfl

/-! ### The nearest codeword -/

/-- The least value of each row of a square table. -/
def least (t : FVec Ideal S1024x1024 .f32) : FVec Ideal S1024 .f32 :=
  multiReduction .minimumf [1] S1024 t 0x7F800000#32 reduces_S1024x1024_S1024 (.inl rfl) rfl

/-- Row r with column k inserted is (r, k). -/
theorem lift_eq (r k : Fin 1024) :
    reduces_S1024x1024_S1024.lift (a := (1 : Fin S1024x1024.rank)) (ix1 r) k = ix2 r k :=
  funext fun a => Fin.ext (by match a with | ⟨0, _⟩ => rfl | ⟨1, _⟩ => rfl)

/-- The least value of row r is the one at its first index of the least value. -/
theorem least_apply (t : FVec Ideal S1024x1024 .f32) (r : Fin 1024) (d : Fin 1024 → EReal) (h : ∀ k, t (ix2 r k) = d k) :
    least t (ix1 r) = d (firstMin d) := by
  unfold least
  haveI : Std.Commutative (FloatOps.minimumf (F := Ideal) (φ := .f32)) := ⟨fun a b => min_comm (a : EReal) b⟩
  haveI : Std.Associative (FloatOps.minimumf (F := Ideal) (φ := .f32)) := ⟨fun a b c => min_assoc (a : EReal) b c⟩
  refine (multiReduction_minimumf_eq_fold t _ reduces_S1024x1024_S1024 _ _ (ix1 r)).trans ?_
  refine (reduces_S1024x1024_S1024.fold_filter_drop_single (a := (1 : Fin S1024x1024.rank)) _ _ t (ix1 r)).trans ?_
  have e : (t ∘ reduces_S1024x1024_S1024.lift (a := (1 : Fin S1024x1024.rank)) (ix1 r)) = d :=
    funext fun k => (congrArg t (lift_eq r k)).trans (h k)
  rw [e]
  refine Eq.trans ?_ (fold_min_eq d)
  exact congrArg (fun b => Finset.univ.fold min b d) ofBits_inf

/-- The columns at which a row's least value is attained, 1024 standing for the others. -/
def marks (t : FVec Ideal S1024x1024 .f32) : IVec S1024x1024 32 :=
  select (cmpf .oeq t (broadcastTo S1024x1024 (shapeCast S1024x1 (least t) shapeCasts_S1024_S1024x1) broadcasts_S1024x1_S1024x1024))
    (iota .tc S1024x1024 32 [1] iota_S1024x1024_d1_w32) (broadcast S1024x1024 1024#32)

/-- The mark at (r, k). -/
theorem marks_apply (t : FVec Ideal S1024x1024 .f32) (r : Fin 1024) (d : Fin 1024 → EReal) (h : ∀ k, t (ix2 r k) = d k)
    (k : Fin 1024) : marks t (ix2 r k) = if d k = d (firstMin d) then BitVec.ofNat 32 k.val else 1024#32 := by
  unfold marks
  rw [select_apply, cmpf_apply, along_apply, least_apply t r d h, h, iota_single_apply]
  simp only [Ideal.cmpf_def, Ideal.cmp]
  by_cases hd : d k = d (firstMin d)
  · rw [if_pos hd, hd]; simp [Scalar.select]
  · rw [if_neg hd]; simp [Scalar.select, hd, broadcast_apply]

/-- The kernel's index of the nearest codeword of row r is the first at which the row's distance is least. -/
theorem pay3_apply (v0 : Vec Ideal S1024x32 .f32) (v1 : Vec Ideal S32x1024 .f32) (v3 : Vec Ideal S1024x32 .f32)
    (ht : ∀ e k, v1 (ix2 e k) = v3 (ix2 k e)) (r : Fin 1024) :
    k0_pay3 (F := Ideal) v0 v1 v3 (ix1 r) = BitVec.ofNat 32 (firstMin (dists v0 v3 r)).val := by
  have hp : k0_pay3 (F := Ideal) v0 v1 v3
      = multiReductionI .minsi [1] S1024 (marks (table v0 v1 v3)) 2147483647#32 reduces_S1024x1024_S1024 rfl := rfl
  rw [hp]
  refine (multiReductionI_eq_fold .minsi _ _ reduces_S1024x1024_S1024 _ (ix1 r)).trans ?_
  refine (reduces_S1024x1024_S1024.fold_filter_drop_single (a := (1 : Fin S1024x1024.rank)) IntOp.minsi _ _ (ix1 r)).trans ?_
  refine fold_minsi_eq (dists v0 v3 r) _ fun k => ?_
  exact (congrArg (marks (table v0 v1 v3)) (lift_eq r k)).trans (marks_apply _ r _ (table_apply v0 v1 v3 ht r) k)

/-! ### The codeword -/

/-- A table whose row r has a one at the column `z r` and zeros elsewhere. -/
def oneHot (z : IVec S1024 32) : FVec Ideal S1024x1024 .f32 :=
  sitofp .f32 (extui 32 (cmpi .eq (iota .tc S1024x1024 32 [1] iota_S1024x1024_d1_w32)
    (broadcastTo S1024x1024 (shapeCast S1024x1 z shapeCasts_S1024_S1024x1) broadcasts_S1024x1_S1024x1024)) natLt_1_32)

/-- Its entry (r, k). -/
theorem oneHot_apply (z : IVec S1024 32) (r l : Fin 1024) (hz : z (ix1 r) = BitVec.ofNat 32 l.val) (k : Fin 1024) :
    oneHot z (ix2 r k) = if k = l then 1 else 0 := by
  unfold oneHot
  rw [sitofp_apply, extui_apply]
  show FloatOps.sitofp .f32 ((IntOp.cmpi .eq _ _).setWidth 32) = _
  rw [along_apply, hz, iota_single_apply]
  show (((((IntOp.cmpi .eq (BitVec.ofNat 32 k.val) (BitVec.ofNat 32 l.val)).setWidth 32).toInt : ℤ) : ℝ) : EReal) = _
  by_cases h : k = l
  · subst h
    rw [if_pos rfl]
    simp [IntOp.cmpi]
  · have : BitVec.ofNat 32 k.val ≠ BitVec.ofNat 32 l.val := fun e => h (index_inj e)
    rw [if_neg h]
    rw [show IntOp.cmpi .eq (BitVec.ofNat 32 k.val) (BitVec.ofNat 32 l.val) = 0#1 from
      congrArg BitVec.ofBool (beq_eq_false_iff_ne.2 this)]
    simp

/-- A square table times the codebook. -/
theorem product_apply (w : FVec Ideal S1024x1024 .f32) (v3 : FVec Ideal S1024x32 .f32) (r : Fin 1024) (e : Fin 32) :
    matmul dot_S1024x1024_S1024x32_S1024x32_1_0_0_1_n_n none w v3 (constant S1024x32 .f32 0x00000000#32) (ix2 r e)
      = ∑ k : Fin 1024, w (ix2 r k) * v3 (ix2 k e) := by
  refine (Ideal.matmul_constant_zero_apply dot_S1024x1024_S1024x32_S1024x32_1_0_0_1_n_n none w v3 (ix2 r e)).trans ?_
  rw [← Equiv.sum_comp (contrEquiv1 dot_S1024x1024_S1024x32_S1024x32_1_0_0_1_n_n 1024 rfl rfl).symm]
  refine Finset.sum_congr rfl fun k _ => ?_
  have he := contrEquiv1_symm_val dot_S1024x1024_S1024x32_S1024x32_1_0_0_1_n_n 1024 rfl rfl k
  have el : dot_S1024x1024_S1024x32_S1024x32_1_0_0_1_n_n.lhsIdx (ix2 r e)
      ((contrEquiv1 dot_S1024x1024_S1024x32_S1024x32_1_0_0_1_n_n 1024 rfl rfl).symm k) = ix2 r k := funext fun a => Fin.ext (by
    match a with
    | ⟨0, _⟩ =>
      show (dot_S1024x1024_S1024x32_S1024x32_1_0_0_1_n_n.lhsIdx _ _ 0).val = r.val
      unfold DotDims.lhsIdx
      rw [dif_neg (show ¬(0 : Fin S1024x1024.rank) ∈ dot_S1024x1024_S1024x32_S1024x32_1_0_0_1_n_n.lhsBatch by decide),
        dif_pos (show (0 : Fin S1024x1024.rank) ∈ dot_S1024x1024_S1024x32_S1024x32_1_0_0_1_n_n.lhsNonContracting by decide)]
      rfl
    | ⟨1, _⟩ => exact (DotDims.lhsIdx_val_of_single _ rfl _ _).trans he)
  have er : dot_S1024x1024_S1024x32_S1024x32_1_0_0_1_n_n.rhsIdx (ix2 r e)
      ((contrEquiv1 dot_S1024x1024_S1024x32_S1024x32_1_0_0_1_n_n 1024 rfl rfl).symm k) = ix2 k e := funext fun a => Fin.ext (by
    match a with
    | ⟨0, _⟩ => exact (DotDims.rhsIdx_val_of_single _ rfl _ _).trans he
    | ⟨1, _⟩ =>
      show (dot_S1024x1024_S1024x32_S1024x32_1_0_0_1_n_n.rhsIdx _ _ 1).val = e.val
      unfold DotDims.rhsIdx
      rw [dif_neg (show ¬(1 : Fin S1024x32.rank) ∈ dot_S1024x1024_S1024x32_S1024x32_1_0_0_1_n_n.rhsBatch by decide),
        dif_pos (show (1 : Fin S1024x32.rank) ∈ dot_S1024x1024_S1024x32_S1024x32_1_0_0_1_n_n.rhsNonContracting by decide)]
      rfl)
  rw [el, er]

/-- The product of the one-hot table with the codebook is, in row r, the codeword nearest to point r. -/
theorem pay4_apply (v0 : Vec Ideal S1024x32 .f32) (v1 : Vec Ideal S32x1024 .f32) (v3 : Vec Ideal S1024x32 .f32)
    (ht : ∀ e k, v1 (ix2 e k) = v3 (ix2 k e)) (r : Fin 1024) (e : Fin 32) :
    k0_pay4 (F := Ideal) v0 v1 v3 (ix2 r e) = row v3 (firstMin (dists v0 v3 r)) e := by
  have hp : k0_pay4 (F := Ideal) v0 v1 v3
      = matmul dot_S1024x1024_S1024x32_S1024x32_1_0_0_1_n_n none (oneHot (k0_pay3 (F := Ideal) v0 v1 v3)) v3
          (constant S1024x32 .f32 0x00000000#32) := rfl
  rw [hp, product_apply]
  refine sum_pick (fun k => oneHot _ (ix2 r k)) (fun k => v3 (ix2 k e)) (firstMin (dists v0 v3 r)) ?_ fun k hk => ?_
  · exact (oneHot_apply _ r _ (pay3_apply v0 v1 v3 ht r) _).trans (if_pos rfl)
  · exact (oneHot_apply _ r _ (pay3_apply v0 v1 v3 ht r) k).trans (if_neg hk)

/-- The block's straight-through output: `x + (q − x)`. -/
theorem pay5_apply (v0 : Vec Ideal S1024x32 .f32) (v1 : Vec Ideal S32x1024 .f32) (v3 : Vec Ideal S1024x32 .f32)
    (ht : ∀ e k, v1 (ix2 e k) = v3 (ix2 k e)) (r : Fin 1024) (e : Fin 32) :
    k0_pay5 (F := Ideal) v0 v1 v3 (ix2 r e) = row v0 r e + (row v3 (firstMin (dists v0 v3 r)) e - row v0 r e) := by
  have hp : k0_pay5 (F := Ideal) v0 v1 v3 = addf v0 (subf (k0_pay4 (F := Ideal) v0 v1 v3) v0) := rfl
  rw [hp, addf_apply, subf_apply, pay4_apply v0 v1 v3 ht]

/-- The block's sum of squared differences `q − x`. -/
theorem pay6_apply (v0 : Vec Ideal S1024x32 .f32) (v1 : Vec Ideal S32x1024 .f32) (v3 : Vec Ideal S1024x32 .f32)
    (ht : ∀ e k, v1 (ix2 e k) = v3 (ix2 k e)) (j : S1.Idx) :
    k0_pay6 (F := Ideal) v0 v1 v3 j = ∑ r : Fin 1024, ∑ e : Fin 32,
      (row v3 (firstMin (dists v0 v3 r)) e - row v0 r e) * (row v3 (firstMin (dists v0 v3 r)) e - row v0 r e) := by
  have hp : k0_pay6 (F := Ideal) v0 v1 v3 = multiReduction .add [1, 2] S1
      (shapeCast S1x1024x32 (mulf (subf (k0_pay4 (F := Ideal) v0 v1 v3) v0) (subf (k0_pay4 (F := Ideal) v0 v1 v3) v0))
        shapeCasts_S1024x32_S1x1024x32) 0x00000000#32 reduces_S1x1024x32_S1 (.inl rfl) rfl := rfl
  rw [hp]
  refine (Ideal.multiReduction_add_total _ _ reduces_S1x1024x32_S1 (fun b => by match b with | ⟨0, _⟩ => rfl) _ _ j).trans ?_
  refine (Equiv.sum_comp (Shape.reshapeEquiv shapeCasts_S1024x32_S1x1024x32)
    (mulf (subf (k0_pay4 (F := Ideal) v0 v1 v3) v0) (subf (k0_pay4 (F := Ideal) v0 v1 v3) v0))).trans ?_
  rw [sum_idx2]
  refine Finset.sum_congr rfl fun r _ => Finset.sum_congr rfl fun e _ => ?_
  rw [mulf_apply, subf_apply, pay4_apply v0 v1 v3 ht]

/-- The running sum with the block's sum added. -/
theorem pay2_apply (v38 : FVec Ideal S1 .f32) (v45 : Vec Ideal S1x1 .f32) (j : S1x1.Idx) :
    k0_pay2 (F := Ideal) v38 v45 j = v45 j + v38 (ix1 (0 : Fin 1)) := by
  have hp : k0_pay2 (F := Ideal) v38 v45 = addf (shapeCast (α := Ideal .f32) S1x1 v45 shapeCasts_S1x1_S1x1)
      (broadcast S1x1 (shapeCast S1x1x1 v38 shapeCasts_S1_S1x1x1 (ix3 (0 : Fin 1) (0 : Fin 1) (0 : Fin 1)))) := by
    unfold k0_pay2
    refine congrArg (fun b => addf (shapeCast (α := Ideal .f32) S1x1 v45 shapeCasts_S1x1_S1x1) (broadcast S1x1 b)) ?_
    exact congrArg (shapeCast S1x1x1 v38 shapeCasts_S1_S1x1x1) (funext fun a => Fin.ext (by
      match a with | ⟨0, _⟩ => rfl | ⟨1, _⟩ => rfl | ⟨2, _⟩ => rfl))
  rw [hp, addf_apply, shapeCast_self, broadcast_apply]
  refine congrArg (v45 j + ·) (shapeCast_apply v38 _ _ _ ?_)
  rw [Shape.rowMajor_val_three, Shape.rowMajor_val_one]
  rfl

end Cert.KerBlock

end
-- ==== Proof.KerIn.lean ====
/- What the kernel's three input blocks hold at a grid point: rows `1024·t …` of the array of vectors, the codebook
   transposed, and the codebook. -/
module

public import proofs.«01_k».proof.Proof.Gen.KernelIdeal.Frame
public import proofs.«01_k».proof.Proof.KerBlock
public import Idealize.ShloMosaic.Lib.Pipeline.Value

@[expose] public section

set_option maxRecDepth 16384

noncomputable section

namespace Cert.KerIn

open Cert.KernelIdeal Cert.KernelIdeal.Gen
open Idealize.ShloMosaic Idealize.ShloMosaic.TcCoe Idealize.ShloMosaic.ValueIdx
open Idealize.SL Idealize.SL.Sem

/-- Where every window's block lies at a point: the vectors' and the two blocked outputs' move with the point, the
    others stay. -/
theorem index_all : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val
    ∧ (win0_4.index t 0 = t.val ∧ win0_4.index t 1 = 0) ∧ (win0_5.index t 0 = 0 ∧ win0_5.index t 1 = 0) := by
  decide +kernel

variable {F : FTy → Type} [FloatOps F]
variable (m : (ℓ : Loc nD τ sig) → Buf (Elt F) ℓ)

/-- The array of vectors as launched. -/
def X (c : Dev nD) : Vec F S131072x32 .f32 := m ((c : Thread nD τ).loc main_arg0)
/-- The codebook as launched. -/
def C (c : Dev nD) : Vec F S1024x32 .f32 := m ((c : Thread nD τ).loc main_arg1)

/-- Row `1024·t + r` of the array of vectors. -/
def at_ (t : Fin cfg0.N) (r : Fin 1024) : Fin 131072 :=
  ⟨1024 * t.val + r.val, by have h : t.val < 128 := lt_of_lt_of_eq t.isLt N_0; have := r.isLt; omega⟩

/-- The transposed codebook as the grid finds it. -/
theorem V_transposed (c : Dev nD) :
    V m c main_call0_v0 = transpose S32x1024 [1, 0] (C m c) transposes_S1024x32_S32x1024_1_0 := by
  unfold V V0
  simp only [List.flatten_cons, List.flatten_nil, List.append_nil, hostOps0, StableHlo.TRef.unary,
    StableHlo.TRef.toBuf, StableHlo.TRef.ofBuf, cast_eq]
  after_results_simp <;> rfl

/-- The first block's row `r` is row `1024·t + r` of the array of vectors. -/
theorem block0 (c : Dev nD) (t : Fin cfg0.N) (r : Fin 1024) (e : Fin 32) :
    (iblk m c 0 t : Vec F S1024x32 .f32) (ix2 r e) = X m c (ix2 (at_ t r) e) := by
  obtain ⟨h, _⟩ := index_all t
  unfold iblk
  rw [View.read_apply]
  show V m c main_arg0 _ = X m c _
  rw [V_main_arg0]
  show X m c _ = X m c _
  congr 1
  funext a
  apply Fin.ext
  match a with
  | ⟨0, _⟩ => show win0_0.index t 0 * 1024 + 1 * r.val = 1024 * t.val + r.val; rw [h.1]; omega
  | ⟨1, _⟩ => show win0_0.index t 1 * 32 + 1 * e.val = e.val; rw [h.2]; omega

/-- The second block is the codebook transposed. -/
theorem block1 (c : Dev nD) (t : Fin cfg0.N) (e : Fin 32) (k : Fin 1024) :
    (iblk m c 1 t : Vec F S32x1024 .f32) (ix2 e k) = C m c (ix2 k e) := by
  obtain ⟨_, h, _⟩ := index_all t
  unfold iblk
  rw [View.read_apply]
  show V m c main_call0_v0 _ = C m c _
  rw [V_transposed]
  show C m c _ = C m c _
  congr 1
  funext a
  apply Fin.ext
  match a with
  | ⟨0, _⟩ => show win0_1.index t 1 * 1024 + 1 * k.val = k.val; rw [h.2]; omega
  | ⟨1, _⟩ => show win0_1.index t 0 * 32 + 1 * e.val = e.val; rw [h.1]; omega

/-- The third block is the codebook. -/
theorem block2 (c : Dev nD) (t : Fin cfg0.N) (k : Fin 1024) (e : Fin 32) :
    (iblk m c 2 t : Vec F S1024x32 .f32) (ix2 k e) = C m c (ix2 k e) := by
  obtain ⟨_, _, h, _⟩ := index_all t
  unfold iblk
  rw [View.read_apply]
  show V m c main_arg1 _ = C m c _
  rw [V_main_arg1]
  show C m c _ = C m c _
  congr 1
  funext a
  apply Fin.ext
  match a with
  | ⟨0, _⟩ => show win0_2.index t 0 * 1024 + 1 * k.val = k.val; rw [h.1]; omega
  | ⟨1, _⟩ => show win0_2.index t 1 * 32 + 1 * e.val = e.val; rw [h.2]; omega

end Cert.KerIn

end
-- ==== Proof.KerValue.lean ====
/- What the kernel's arrays hold after the run, on the extended reals: at point `i` the index of the nearest codeword
   and the straight-through output, and in the one-element array the sum over all blocks of the squared differences. -/
module

public import proofs.«01_k».proof.Proof.KerOut
public import proofs.«01_k».proof.Proof.KerIn

@[expose] public section

set_option maxRecDepth 16384

noncomputable section

namespace Cert.KerValue

open Cert.KernelIdeal Cert.KernelIdeal.Gen Cert.Spec Cert.KerIn
open Idealize.ShloMosaic Idealize.ShloMosaic.TcCoe Idealize.ShloMosaic.ValueIdx
open Idealize.SL Idealize.SL.Sem
open scoped BigOperators

/-- The nearest codeword to point `i`. -/
def near (x : Vec Ideal S131072x32 .f32) (c : Vec Ideal S1024x32 .f32) (i : Fin 131072) : Fin 1024 :=
  firstMin fun k => dist KerBlock.two (fun e => x (ix2 i e)) (fun e => c (ix2 k e))

/-- The difference, at coordinate `e`, of point `i`'s nearest codeword and the point. -/
def gap (x : Vec Ideal S131072x32 .f32) (c : Vec Ideal S1024x32 .f32) (i : Fin 131072) (e : Fin 32) : EReal :=
  c (ix2 (near x c i) e) - x (ix2 i e)

/-- The array of indices. -/
def indices (x : Vec Ideal S131072x32 .f32) (c : Vec Ideal S1024x32 .f32) : Vec Ideal S131072 .i32 :=
  fun i => BitVec.ofNat 32 (near x c (i 0)).val

/-- The straight-through array. -/
def through (x : Vec Ideal S131072x32 .f32) (c : Vec Ideal S1024x32 .f32) : Vec Ideal S131072x32 .f32 :=
  fun j => x (ix2 (j 0) (j 1)) + gap x c (j 0) (j 1)

/-- The squared differences of block `t`, summed. -/
def blockSum (x : Vec Ideal S131072x32 .f32) (c : Vec Ideal S1024x32 .f32) (t : Fin cfg0.N) : EReal :=
  ∑ r : Fin 1024, ∑ e : Fin 32, gap x c (at_ t r) e * gap x c (at_ t r) e

/-- The sum over the blocks up to `n`. -/
def sumTo (x : Vec Ideal S131072x32 .f32) (c : Vec Ideal S1024x32 .f32) (n : ℕ) (h : n < cfg0.N) : EReal :=
  ∑ k : Fin (n + 1), blockSum x c ⟨k.val, lt_of_le_of_lt (Nat.le_of_lt_succ k.isLt) h⟩

variable (m : (ℓ : Loc nD τ sig) → Buf (Elt Ideal) ℓ) (d : Dev nD)

/-- Row `r` of the first block at point `t` is point `1024·t + r`. -/
theorem row0 (t : Fin cfg0.N) (r : Fin 1024) :
    KerBlock.row (iblk m d 0 t) r = fun e => X m d (ix2 (at_ t r) e) := funext fun e => block0 m d t r e

/-- Row `k` of the third block is codeword `k`. -/
theorem row2 (t : Fin cfg0.N) (k : Fin 1024) :
    KerBlock.row (iblk m d 2 t) k = fun e => C m d (ix2 k e) := funext fun e => block2 m d t k e

/-- The second block is the third transposed. -/
theorem transposed (t : Fin cfg0.N) (e : Fin 32) (k : Fin 1024) :
    (iblk m d 1 t : Vec Ideal S32x1024 .f32) (ix2 e k) = (iblk m d 2 t : Vec Ideal S1024x32 .f32) (ix2 k e) :=
  (block1 m d t e k).trans (block2 m d t k e).symm

/-- The nearest codeword in block `t` at row `r` is that of point `1024·t + r`. -/
theorem nearest_block (t : Fin cfg0.N) (r : Fin 1024) :
    firstMin (KerBlock.dists (iblk m d 0 t) (iblk m d 2 t) r) = near (X m d) (C m d) (at_ t r) := by
  unfold near
  refine congrArg firstMin (funext fun k => ?_)
  unfold KerBlock.dists
  rw [row0, row2]

/-- The indices the body leaves at point `t`. -/
theorem left1 (t : Fin cfg0.N) (r : Fin 1024) :
    (outsAt0 m d t.val t.isLt).1 (ix1 r) = BitVec.ofNat 32 (near (X m d) (C m d) (at_ t r)).val := by
  rw [KerOut.outsAt_1]
  refine (KerBlock.pay3_apply (iblk m d 0 t) (iblk m d 1 t) (iblk m d 2 t) (transposed m d t) r).trans ?_
  rw [nearest_block]

/-- The straight-through block the body leaves at point `t`. -/
theorem left2 (t : Fin cfg0.N) (r : Fin 1024) (e : Fin 32) :
    (outsAt0 m d t.val t.isLt).2.1 (ix2 r e)
      = X m d (ix2 (at_ t r) e) + gap (X m d) (C m d) (at_ t r) e := by
  rw [KerOut.outsAt_2]
  refine (KerBlock.pay5_apply (iblk m d 0 t) (iblk m d 1 t) (iblk m d 2 t) (transposed m d t) r e).trans ?_
  rw [nearest_block, row0, row2]
  rfl

/-- The block's sum. -/
theorem pay6_block (t : Fin cfg0.N) (j : S1.Idx) :
    k0_pay6 (F := Ideal) (iblk m d 0 t) (iblk m d 1 t) (iblk m d 2 t) j = blockSum (X m d) (C m d) t := by
  refine (KerBlock.pay6_apply (iblk m d 0 t) (iblk m d 1 t) (iblk m d 2 t) (transposed m d t) j).trans ?_
  unfold blockSum
  refine Finset.sum_congr rfl fun r _ => Finset.sum_congr rfl fun e _ => ?_
  rw [nearest_block, row0, row2]
  rfl

/-- The running sum the body leaves at point `n`. -/
theorem left3 : ∀ (n : ℕ) (h : n < cfg0.N) (j : S1x1.Idx),
    (outsAt0 m d n h).2.2 j = sumTo (X m d) (C m d) n h
  | 0, h, j => by
    rw [KerOut.outsAt_3_zero]
    refine (KerBlock.pay2_apply _ _ j).trans ?_
    rw [pay6_block]
    unfold sumTo
    rw [Fin.sum_univ_succ, Fin.sum_univ_zero, add_zero]
    show Ideal.ofBits .f32 0x00000000#32 + _ = _
    rw [Ideal.ofBits_zero_f32, zero_add]
    rfl
  | n + 1, h, j => by
    rw [KerOut.outsAt_3_succ]
    refine (KerBlock.pay2_apply _ _ j).trans ?_
    rw [pay6_block, left3 n]
    unfold sumTo
    rw [Fin.sum_univ_castSucc (n := n + 1)]
    rfl

/-- What point `t` writes back to the array of indices is that array's block. -/
theorem flushed3 (t : Fin cfg0.N) :
    (dats m 0 d).flushed 3 t = ((cfg0.win 3).blk t).view.read (Elt Ideal) (indices (X m d) (C m d)) := by
  obtain ⟨_, _, _, h, _⟩ := index_all t
  show (cfg0.win 3).cut (grid0.coords t) ((dats m 0 d).after 3 t) = _
  rw [after0_3]
  funext j
  rw [View.read_apply]
  obtain ⟨r, rfl⟩ : ∃ r : Fin 1024, ix1 r = j := ⟨j 0, funext fun a => by fin_cases a; rfl⟩
  refine (left1 m d t r).trans ?_
  show _ = BitVec.ofNat 32 (near (X m d) (C m d) _).val
  congr 3
  apply Fin.ext
  show 1024 * t.val + r.val = win0_3.index t 0 * 1024 + 1 * r.val
  rw [h]; omega

/-- What point `t` writes back to the straight-through array is that array's block. -/
theorem flushed4 (t : Fin cfg0.N) :
    (dats m 0 d).flushed 4 t = ((cfg0.win 4).blk t).view.read (Elt Ideal) (through (X m d) (C m d)) := by
  obtain ⟨_, _, _, _, h, _⟩ := index_all t
  show (cfg0.win 4).cut (grid0.coords t) ((dats m 0 d).after 4 t) = _
  rw [after0_4]
  funext j
  rw [View.read_apply]
  obtain ⟨r, e, rfl⟩ : ∃ (r : Fin 1024) (e : Fin 32), ix2 r e = j := ⟨j 0, j 1, funext fun a => by fin_cases a <;> rfl⟩
  refine (left2 m d t r e).trans ?_
  have hr : at_ t r = (((cfg0.win 4).blk t).view.emb (ix2 r e) : S131072x32.Idx) 0 := by
    apply Fin.ext
    show 1024 * t.val + r.val = win0_4.index t 0 * 1024 + 1 * r.val
    rw [h.1]; omega
  have he : e = (((cfg0.win 4).blk t).view.emb (ix2 r e) : S131072x32.Idx) 1 := by
    apply Fin.ext
    show e.val = win0_4.index t 1 * 32 + 1 * e.val
    rw [h.2]; omega
  exact congrArg₂ (fun a b => X m d (ix2 a b) + gap (X m d) (C m d) a b) hr he

/-- After the run the array of indices holds every point's nearest codeword. -/
theorem array3 : (dats m 0 d).arrAt 3 cfg0.N = indices (X m d) (C m d) :=
  (dats m 0 d).arrAt_eq_of_cover 3 _ (fun t _ => flushed3 m d t) fun i => by
    have h0 : (i 0 : Nat) < 131072 := (i 0).isLt
    have hlt : (i 0 : Nat) / 1024 < cfg0.N := lt_of_lt_of_eq (by omega) N_0.symm
    obtain ⟨_, _, _, h, _⟩ := index_all ⟨(i 0 : Nat) / 1024, hlt⟩
    refine ⟨⟨(i 0 : Nat) / 1024, hlt⟩, flush0_3 _, ?_⟩
    show i ∈ ((View.whole main_v0_0).slice (win0_3.rect ⟨(i 0 : Nat) / 1024, hlt⟩)).set
    rw [View.set_slice_whole, Rect.mem_set_unit]
    intro a
    match a with
    | ⟨0, _⟩ =>
      show win0_3.index _ 0 * 1024 ≤ (i 0 : Nat) ∧ (i 0 : Nat) < win0_3.index _ 0 * 1024 + 1024
      rw [h]; dsimp only; omega

/-- After the run the straight-through array holds its value at every point and coordinate. -/
theorem array4 : (dats m 0 d).arrAt 4 cfg0.N = through (X m d) (C m d) :=
  (dats m 0 d).arrAt_eq_of_cover 4 _ (fun t _ => flushed4 m d t) fun i => by
    have h0 : (i 0 : Nat) < 131072 := (i 0).isLt
    have h1 : (i 1 : Nat) < 32 := (i 1).isLt
    have hlt : (i 0 : Nat) / 1024 < cfg0.N := lt_of_lt_of_eq (by omega) N_0.symm
    obtain ⟨_, _, _, _, h, _⟩ := index_all ⟨(i 0 : Nat) / 1024, hlt⟩
    refine ⟨⟨(i 0 : Nat) / 1024, hlt⟩, flush0_4 _, ?_⟩
    show i ∈ ((View.whole main_v0_1).slice (win0_4.rect ⟨(i 0 : Nat) / 1024, hlt⟩)).set
    rw [View.set_slice_whole, Rect.mem_set_unit]
    intro a
    match a with
    | ⟨0, _⟩ =>
      show win0_4.index _ 0 * 1024 ≤ (i 0 : Nat) ∧ (i 0 : Nat) < win0_4.index _ 0 * 1024 + 1024
      rw [h.1]; dsimp only; omega
    | ⟨1, _⟩ =>
      show win0_4.index _ 1 * 32 ≤ (i 1 : Nat) ∧ (i 1 : Nat) < win0_4.index _ 1 * 32 + 32
      rw [h.2]; omega

/-- The last point. -/
abbrev last : Fin cfg0.N := ⟨127, lt_of_lt_of_eq (by decide) N_0.symm⟩

/-- The one-element array with the sum over all blocks. -/
def total : Vec Ideal S1x1 .f32 := fun _ => sumTo (X m d) (C m d) 127 last.isLt

/-- After the run the one-element array holds the sum over all blocks. -/
theorem array5 : (dats m 0 d).arrAt 5 cfg0.N = total m d :=
  (dats m 0 d).arrAt_eq_of_cover 5 _ (fun t hf => by
    have hN : t.val < 128 := lt_of_lt_of_eq t.isLt N_0
    have ht : t = last := Fin.ext (by have := (flush0_5 t).mp hf; show t.val = 127; omega)
    subst ht
    show (cfg0.win 5).cut (grid0.coords last) ((dats m 0 d).after 5 last) = _
    rw [after0_5]
    funext j
    rw [View.read_apply]
    exact left3 m d 127 last.isLt j) fun i => by
    have h0 : (i 0 : Nat) < 1 := (i 0).isLt
    have h1 : (i 1 : Nat) < 1 := (i 1).isLt
    obtain ⟨_, _, _, _, _, h⟩ := index_all last
    refine ⟨last, (flush0_5 last).mpr rfl, ?_⟩
    show i ∈ ((View.whole main_call0_v1_2).slice (win0_5.rect last)).set
    rw [View.set_slice_whole, Rect.mem_set_unit]
    intro a
    match a with
    | ⟨0, _⟩ =>
      show win0_5.index last 0 * 1 ≤ (i 0 : Nat) ∧ (i 0 : Nat) < win0_5.index last 0 * 1 + 1
      rw [h.1]; omega
    | ⟨1, _⟩ =>
      show win0_5.index last 1 * 1 ≤ (i 1 : Nat) ∧ (i 1 : Nat) < win0_5.index last 1 * 1 + 1
      rw [h.2]; omega

end Cert.KerValue

end
-- ==== Proof.KerRun.lean ====
/- The kernel's run on the extended reals: every execution terminates with the four results at their values (the two
   losses are one array) and both arguments unchanged. -/
module

public import proofs.«01_k».proof.Proof.KerValue

@[expose] public section

set_option maxRecDepth 16384

noncomputable section

namespace Cert.KerRun

open Cert.KernelIdeal Cert.KernelIdeal.Gen Cert.KerIn Cert.KerValue
open Idealize.ShloMosaic Idealize.ShloMosaic.TcCoe Idealize.ShloMosaic.ValueIdx
open Idealize.SL Idealize.SL.Sem

/-- The loss: the sum over all blocks divided by the number of entries. -/
def loss (x : Vec Ideal S131072x32 .f32) (c : Vec Ideal S1024x32 .f32) : Vec Ideal S_ .f32 :=
  fun _ => Ideal.div (sumTo x c 127 last.isLt) (Ideal.ofBits .f32 0x4A800000#32)

variable (m : (ℓ : Loc nD τ sig) → Buf (Elt Ideal) ℓ) (ρ : Dev nD → PrngReg)

/-- The lines after the grid leave the quotient of the one-element array and the number of entries. -/
theorem tail_loss (d : Dev nD) :
    Pipeline.afterTail₀ cfgs (dats m) 0 (V0 m) [hostOps1] d main_v0_2 = loss (X m d) (C m d) := by
  have h5 : Pipeline.withArrays (cfgs 0).spec d (V0 m d) (fun w => (dats m 0 d).arrAt w (cfgs 0).N)
      (Proc.devRef .tc main_call0_v1_2) = total m d :=
    (Pipeline.withArrays_arr spec0 launch0.win.arr_inj d (V0 m d) (fun w => (dats m 0 d).arrAt w (cfgs 0).N) 5).trans
      (array5 m d)
  unfold Pipeline.afterTail₀
  generalize Pipeline.withArrays (cfgs 0).spec d (V0 m d) (fun w => (dats m 0 d).arrAt w (cfgs 0).N) = W at h5 ⊢
  have hW : StableHlo.after (List.flatten [hostOps1]) W (Proc.devRef .tc main_v0_2)
      = Host.divf (shapeCast (α := Ideal .f32) S_ (W (Proc.devRef .tc main_call0_v1_2)) shapeCasts_S1x1_S_)
          (constant (F := Ideal) S_ .f32 0x4A800000#32) := by
    simp only [List.flatten_cons, List.flatten_nil, List.append_nil, hostOps1, StableHlo.TRef.nullary,
      StableHlo.TRef.binary, StableHlo.TRef.reshape, StableHlo.TRef.toBuf, StableHlo.TRef.ofBuf, cast_eq]
    after_results_simp <;> rfl
  refine hW.trans ?_
  rw [h5]
  rfl

/-- The run. -/
theorem run : θ_run defs (onTc (τ := τ) (main (F := Ideal))) ⟨m, fun _ => 0, ρ⟩ fun r => ∀ d : Dev nD,
      r.2.mem ((d.tc : Thread nD τ).loc main_v0_0) = indices (X m d) (C m d)
      ∧ r.2.mem ((d.tc : Thread nD τ).loc main_v0_1) = through (X m d) (C m d)
      ∧ r.2.mem ((d.tc : Thread nD τ).loc main_v0_2) = loss (X m d) (C m d)
      ∧ r.2.mem ((d.tc : Thread nD τ).loc main_arg0) = m ((d.tc : Thread nD τ).loc main_arg0)
      ∧ r.2.mem ((d.tc : Thread nD τ).loc main_arg1) = m ((d.tc : Thread nD τ).loc main_arg1) :=
  (θ_run defs _ _).mono (fun _ h d => ⟨
      ((h d).1 3).trans (array3 m d),
      ((h d).1 4).trans (array4 m d),
      ((h d).2 main_v0_2 (Pipeline.mem_restRefs_of main_v0_2 (by decide) (by decide))).trans (tail_loss m d),
      ((h d).1 0).trans (((dats m 0 d).arrAt_in 0 rfl _).trans ((A_eq m d 0).trans (V_main_arg0 m d))),
      ((h d).1 2).trans (((dats m 0 d).arrAt_in 2 rfl _).trans ((A_eq m d 2).trans (V_main_arg1 m d)))⟩)
    (run_main m ρ)

end Cert.KerRun

end
-- ==== Proof.RefRun.lean ====
/- The reference program's run. `@main` is straight-line host code once its two called functions
   (`argmin` and `take`) are written out in the places of their calls: 59 operations, listed here in order.
   Every execution terminates with each returned buffer at the composed value of these operations, stated
   through five named stages: the table of distances, the index of the nearest codeword, the codeword looked
   up, the straight-through output, and the two mean squared differences. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ### The stages as functions of the two arguments -/

/-- `|xᵢ|²` for every point. -/
def pointSq (x : Vec F S131072x32 .f32) : Vec F S131072 .f32 :=
  Host.reduceAdd (mulf x x) (constant S_ .f32 0x00000000#32) reducesTo_S131072x32_S131072_d1 h_S_

/-- `|cₖ|²` for every codeword. -/
def wordSq (c : Vec F S1024x32 .f32) : Vec F S1024 .f32 :=
  Host.reduceAdd (mulf c c) (constant S_ .f32 0x00000000#32) reducesTo_S1024x32_S1024_d1 h_S_

/-- The inner products `xᵢ · cₖ`. -/
def scores (x : Vec F S131072x32 .f32) (c : Vec F S1024x32 .f32) : Vec F S131072x1024 .f32 :=
  Host.dotGeneral dot_S131072x32_S32x1024_S131072x1024_1_0_0_1_n_n none x
    (transpose S32x1024 [1, 0] c transposes_S1024x32_S32x1024_1_0)

/-- One number per point, repeated along the table's rows. -/
def alongRows (y : Vec F S131072 .f32) : Vec F S131072x1024 .f32 :=
  broadcastInDim S131072x1024 ![0, 1] bcast_S131072x1_S131072x1024_0_1
    (broadcastInDim S131072x1 ![0] bcast_S131072_S131072x1_0 y)

/-- One number per codeword, repeated down the table's columns. -/
def downColumns (y : Vec F S1024 .f32) : Vec F S131072x1024 .f32 :=
  broadcastInDim S131072x1024 ![0, 1] bcast_S1x1024_S131072x1024_0_1
    (broadcastInDim S1x1024 ![1] bcast_S1024_S1x1024_1 y)

/-- The table of squared distances: entry (i, k) is `|xᵢ|² + |cₖ|² − 2·(xᵢ · cₖ)`. -/
def distances (x : Vec F S131072x32 .f32) (c : Vec F S1024x32 .f32) : Vec F S131072x1024 .f32 :=
  subf (addf (alongRows (pointSq x)) (downColumns (wordSq c)))
    (mulf (broadcastInDim S131072x1024 ![] bcast_S_S131072x1024 (constant S_ .f32 0x40000000#32)) (scores x c))

/-- The index of the nearest codeword of every row, as the host's arg-min over the table gives it. -/
def nearest (x : Vec F S131072x32 .f32) (c : Vec F S1024x32 .f32) : Vec F S131072 .i32 := fun j =>
  (Host.argReduce reducer_argmin_f32_i32 (distances x c) (iotaInDim S131072x1024 32 1)
    (constant S_ .f32 0x7F800000#32) (constantI S_ 32 0#32) reducesTo_S131072x1024_S131072_d1 h_S_ j).2

/-- The row numbers `take` reads: a negative index counts from the end. -/
def rowIdx (z : IVec S131072 32) : IVec S131072x1 32 :=
  broadcastInDim S131072x1 ![0] bcast_S131072_S131072x1_0
    (select (cmpi .slt z (broadcastInDim S131072 ![] bcast_S_S131072 (constantI S_ 32 0#32)))
      (addi z (broadcastInDim S131072 ![] bcast_S_S131072 (constantI S_ 32 1024#32))) z)

/-- Whether `take`'s row number lies in the codebook: between 0 and 1023. -/
def rowOk (z : IVec S131072 32) : IVec S131072 1 :=
  Host.reduce IntOp.andi
    (andi
      (cmpi .sge (rowIdx z) (broadcastInDim S131072x1 ![] bcast_S_S131072x1 (constantI S_ 32 0#32)))
      (cmpi .sle (rowIdx z)
        (broadcastInDim S131072x1 ![0, 1] bcast_S1x1_S131072x1_0_1
          (broadcastInDim S1x1 ![1] bcast_S1_S1x1_1 (constantI S1 32 1023#32)))))
    (constantI S_ 1 1#1) reducesTo_S131072x1_S131072_d1 h_S_

/-- `take` of the codebook at the indices `z`: the rows gathered, a fill word where the index is out of range. -/
def lookup (c : Vec F S1024x32 .f32) (z : IVec S131072 32) : Vec F S131072x32 .f32 :=
  select (broadcastInDim S131072x32 ![0] bcast_S131072_S131072x32_0 (rowOk z))
    (Host.gather gather_S1024x32_S131072x1_S131072x32_1_0_n_n_0_1_132 c (rowIdx z))
    (broadcastInDim S131072x32 ![] bcast_S_S131072x32 (constant S_ .f32 0x7FC00000#32))

/-- The straight-through output: `x + (q − x)`. -/
def straight (x q : Vec F S131072x32 .f32) : Vec F S131072x32 .f32 := addf x (subf q x)

/-- The sum of the squared differences `a − b` over all entries. -/
def sqSum (a b : Vec F S131072x32 .f32) : Vec F S_ .f32 :=
  Host.reduceAdd (mulf (subf a b) (subf a b)) (constant S_ .f32 0x00000000#32) reducesTo_S131072x32_S_d0_1 h_S_

/-- The mean of the squared differences `a − b` over all entries. -/
def meanSq (a b : Vec F S131072x32 .f32) : Vec F S_ .f32 :=
  Host.divf (sqSum a b) (constant S_ .f32 0x4A800000#32)

/-! ### The run -/

/-- `@main`'s operations in order. -/
abbrev ops : List (HloOp τ sig (Elt F)) :=
  [ binary main_arg0 main_arg0 main_v0 (mulf : (⟨S131072x32, .f32⟩ : BufTy).Contents (Elt F) → (⟨S131072x32, .f32⟩ : BufTy).Contents (Elt F) → (⟨S131072x32, .f32⟩ : BufTy).Contents (Elt F)),
    nullary main_cst (constant S_ .f32 0x00000000#32),
    binary main_v0 main_cst main_v1 ((fun x v => Host.reduceAdd x v reducesTo_S131072x32_S131072_d1 h_S_) : (⟨S131072x32, .f32⟩ : BufTy).Contents (Elt F) → (⟨S_, .f32⟩ : BufTy).Contents (Elt F) → (⟨S131072, .f32⟩ : BufTy).Contents (Elt F)),
    unary main_v1 main_v2 (broadcastInDim S131072x1 ![0] bcast_S131072_S131072x1_0 : (⟨S131072, .f32⟩ : BufTy).Contents (Elt F) → (⟨S131072x1, .f32⟩ : BufTy).Contents (Elt F)),
    binary main_arg1 main_arg1 main_v3 (mulf : (⟨S1024x32, .f32⟩ : BufTy).Contents (Elt F) → (⟨S1024x32, .f32⟩ : BufTy).Contents (Elt F) → (⟨S1024x32, .f32⟩ : BufTy).Contents (Elt F)),
    nullary main_cst_0 (constant S_ .f32 0x00000000#32),
    binary main_v3 main_cst_0 main_v4 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v4 main_v5 (broadcastInDim S1x1024 ![1] bcast_S1024_S1x1024_1 : (⟨S1024, .f32⟩ : BufTy).Contents (Elt F) → (⟨S1x1024, .f32⟩ : BufTy).Contents (Elt F)),
    unary main_v2 main_v6 (broadcastInDim S131072x1024 ![0, 1] bcast_S131072x1_S131072x1024_0_1 : (⟨S131072x1, .f32⟩ : BufTy).Contents (Elt F) → (⟨S131072x1024, .f32⟩ : BufTy).Contents (Elt F)),
    unary main_v5 main_v7 (broadcastInDim S131072x1024 ![0, 1] bcast_S1x1024_S131072x1024_0_1 : (⟨S1x1024, .f32⟩ : BufTy).Contents (Elt F) → (⟨S131072x1024, .f32⟩ : BufTy).Contents (Elt F)),
    binary main_v6 main_v7 main_v8 (addf : (⟨S131072x1024, .f32⟩ : BufTy).Contents (Elt F) → (⟨S131072x1024, .f32⟩ : BufTy).Contents (Elt F) → (⟨S131072x1024, .f32⟩ : BufTy).Contents (Elt F)),
    unary main_arg1 main_v9 ((transpose S32x1024 [1, 0] · transposes_S1024x32_S32x1024_1_0) : (⟨S1024x32, .f32⟩ : BufTy).Contents (Elt F) → (⟨S32x1024, .f32⟩ : BufTy).Contents (Elt F)),
    binary main_arg0 main_v9 main_v10 ((fun l r => Host.dotGeneral dot_S131072x32_S32x1024_S131072x1024_1_0_0_1_n_n none l r) : (⟨S131072x32, .f32⟩ : BufTy).Contents (Elt F) → (⟨S32x1024, .f32⟩ : BufTy).Contents (Elt F) → (⟨S131072x1024, .f32⟩ : BufTy).Contents (Elt F)),
    nullary main_cst_1 (constant S_ .f32 0x40000000#32),
    unary main_cst_1 main_v11 (broadcastInDim S131072x1024 ![] bcast_S_S131072x1024 : (⟨S_, .f32⟩ : BufTy).Contents (Elt F) → (⟨S131072x1024, .f32⟩ : BufTy).Contents (Elt F)),
    binary main_v11 main_v10 main_v12 (mulf : (⟨S131072x1024, .f32⟩ : BufTy).Contents (Elt F) → (⟨S131072x1024, .f32⟩ : BufTy).Contents (Elt F) → (⟨S131072x1024, .f32⟩ : BufTy).Contents (Elt F)),
    binary main_v8 main_v12 main_v13 (subf : (⟨S131072x1024, .f32⟩ : BufTy).Contents (Elt F) → (⟨S131072x1024, .f32⟩ : BufTy).Contents (Elt F) → (⟨S131072x1024, .f32⟩ : BufTy).Contents (Elt F)),
    TRef.nullary (TRef.of (T := ⟨S131072x1024, .i32⟩) main_call0_v0) (iotaInDim S131072x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S131072x1024, .f32⟩) main_v13) (TRef.of (T := ⟨S131072x1024, .i32⟩) main_call0_v0) (TRef.of (T := ⟨S_, .f32⟩) main_call0_cst) (TRef.of (T := ⟨S_, .i32⟩) main_call0_c) (TRef.of (T := ⟨S131072, .f32⟩) main_call0_v1_0) (fun x y u v j => (Host.argReduce reducer_argmin_f32_i32 x y u v reducesTo_S131072x1024_S131072_d1 h_S_ j).1),
    TRef.quaternary (TRef.of (T := ⟨S131072x1024, .f32⟩) main_v13) (TRef.of (T := ⟨S131072x1024, .i32⟩) main_call0_v0) (TRef.of (T := ⟨S_, .f32⟩) main_call0_cst) (TRef.of (T := ⟨S_, .i32⟩) main_call0_c) (TRef.of (T := ⟨S131072, .i32⟩) main_v14) (fun x y u v j => (Host.argReduce reducer_argmin_f32_i32 x y u v reducesTo_S131072x1024_S131072_d1 h_S_ j).2),
    TRef.nullary (TRef.of (T := ⟨S_, .i32⟩) main_call1_c) (constantI S_ 32 0#32),
    TRef.unary (TRef.of (T := ⟨S_, .i32⟩) main_call1_c) (TRef.of (T := ⟨S131072, .i32⟩) main_call1_v0) (broadcastInDim S131072 ![] bcast_S_S131072),
    TRef.binary (TRef.of (T := ⟨S131072, .i32⟩) main_v14) (TRef.of (T := ⟨S131072, .i32⟩) main_call1_v0) (TRef.of (T := ⟨S131072, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S131072, .i32⟩) main_call1_v2) (broadcastInDim S131072 ![] bcast_S_S131072),
    TRef.binary (TRef.of (T := ⟨S131072, .i32⟩) main_v14) (TRef.of (T := ⟨S131072, .i32⟩) main_call1_v2) (TRef.of (T := ⟨S131072, .i32⟩) main_call1_v3) addi,
    TRef.ternary (TRef.of (T := ⟨S131072, .i1⟩) main_call1_v1) (TRef.of (T := ⟨S131072, .i32⟩) main_call1_v3) (TRef.of (T := ⟨S131072, .i32⟩) main_v14) (TRef.of (T := ⟨S131072, .i32⟩) main_call1_v4) select,
    TRef.unary (TRef.of (T := ⟨S131072, .i32⟩) main_call1_v4) (TRef.of (T := ⟨S131072x1, .i32⟩) main_call1_v5) (broadcastInDim S131072x1 ![0] bcast_S131072_S131072x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S131072x1, .i32⟩) main_call1_v6) (broadcastInDim S131072x1 ![] bcast_S_S131072x1),
    TRef.binary (TRef.of (T := ⟨S131072x1, .i32⟩) main_call1_v5) (TRef.of (T := ⟨S131072x1, .i32⟩) main_call1_v6) (TRef.of (T := ⟨S131072x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S131072x1, .i32⟩) main_call1_v9) (broadcastInDim S131072x1 ![0, 1] bcast_S1x1_S131072x1_0_1),
    TRef.binary (TRef.of (T := ⟨S131072x1, .i32⟩) main_call1_v5) (TRef.of (T := ⟨S131072x1, .i32⟩) main_call1_v9) (TRef.of (T := ⟨S131072x1, .i1⟩) main_call1_v10) (cmpi .sle),
    TRef.binary (TRef.of (T := ⟨S131072x1, .i1⟩) main_call1_v7) (TRef.of (T := ⟨S131072x1, .i1⟩) main_call1_v10) (TRef.of (T := ⟨S131072x1, .i1⟩) main_call1_v11) andi,
    TRef.nullary (TRef.of (T := ⟨S_, .i1⟩) main_call1_c_3) (constantI S_ 1 1#1),
    TRef.binary (TRef.of (T := ⟨S131072x1, .i1⟩) main_call1_v11) (TRef.of (T := ⟨S_, .i1⟩) main_call1_c_3) (TRef.of (T := ⟨S131072, .i1⟩) main_call1_v12) (fun x v => Host.reduce IntOp.andi x v reducesTo_S131072x1_S131072_d1 h_S_),
    TRef.binary (TRef.of (T := ⟨S1024x32, .f32⟩) main_arg1) (TRef.of (T := ⟨S131072x1, .i32⟩) main_call1_v5) (TRef.of (T := ⟨S131072x32, .f32⟩) main_call1_v13) (fun x i => Host.gather gather_S1024x32_S131072x1_S131072x32_1_0_n_n_0_1_132 x i),
    TRef.unary (TRef.of (T := ⟨S131072, .i1⟩) main_call1_v12) (TRef.of (T := ⟨S131072x32, .i1⟩) main_call1_v14) (broadcastInDim S131072x32 ![0] bcast_S131072_S131072x32_0),
    TRef.nullary (TRef.of (T := ⟨S_, .f32⟩) main_call1_cst) (constant S_ .f32 0x7FC00000#32),
    TRef.unary (TRef.of (T := ⟨S_, .f32⟩) main_call1_cst) (TRef.of (T := ⟨S131072x32, .f32⟩) main_call1_v15) (broadcastInDim S131072x32 ![] bcast_S_S131072x32),
    TRef.ternary (TRef.of (T := ⟨S131072x32, .i1⟩) main_call1_v14) (TRef.of (T := ⟨S131072x32, .f32⟩) main_call1_v13) (TRef.of (T := ⟨S131072x32, .f32⟩) main_call1_v15) (TRef.of (T := ⟨S131072x32, .f32⟩) main_v15) select,
    binary main_v15 main_arg0 main_v16 (subf : (⟨S131072x32, .f32⟩ : BufTy).Contents (Elt F) → (⟨S131072x32, .f32⟩ : BufTy).Contents (Elt F) → (⟨S131072x32, .f32⟩ : BufTy).Contents (Elt F)),
    binary main_arg0 main_v16 main_v17 (addf : (⟨S131072x32, .f32⟩ : BufTy).Contents (Elt F) → (⟨S131072x32, .f32⟩ : BufTy).Contents (Elt F) → (⟨S131072x32, .f32⟩ : BufTy).Contents (Elt F)),
    binary main_v15 main_arg0 main_v18 (subf : (⟨S131072x32, .f32⟩ : BufTy).Contents (Elt F) → (⟨S131072x32, .f32⟩ : BufTy).Contents (Elt F) → (⟨S131072x32, .f32⟩ : BufTy).Contents (Elt F)),
    binary main_v18 main_v18 main_v19 (mulf : (⟨S131072x32, .f32⟩ : BufTy).Contents (Elt F) → (⟨S131072x32, .f32⟩ : BufTy).Contents (Elt F) → (⟨S131072x32, .f32⟩ : BufTy).Contents (Elt F)),
    nullary main_cst_2 (constant S_ .f32 0x00000000#32),
    binary main_v19 main_cst_2 main_v20 ((fun x v => Host.reduceAdd x v reducesTo_S131072x32_S_d0_1 h_S_) : (⟨S131072x32, .f32⟩ : BufTy).Contents (Elt F) → (⟨S_, .f32⟩ : BufTy).Contents (Elt F) → (⟨S_, .f32⟩ : BufTy).Contents (Elt F)),
    nullary main_cst_3 (constant S_ .f32 0x4A800000#32),
    binary main_v20 main_cst_3 main_v21 (Host.divf : (⟨S_, .f32⟩ : BufTy).Contents (Elt F) → (⟨S_, .f32⟩ : BufTy).Contents (Elt F) → (⟨S_, .f32⟩ : BufTy).Contents (Elt F)),
    binary main_arg0 main_v15 main_v22 (subf : (⟨S131072x32, .f32⟩ : BufTy).Contents (Elt F) → (⟨S131072x32, .f32⟩ : BufTy).Contents (Elt F) → (⟨S131072x32, .f32⟩ : BufTy).Contents (Elt F)),
    binary main_v22 main_v22 main_v23 (mulf : (⟨S131072x32, .f32⟩ : BufTy).Contents (Elt F) → (⟨S131072x32, .f32⟩ : BufTy).Contents (Elt F) → (⟨S131072x32, .f32⟩ : BufTy).Contents (Elt F)),
    nullary main_cst_4 (constant S_ .f32 0x00000000#32),
    binary main_v23 main_cst_4 main_v24 ((fun x v => Host.reduceAdd x v reducesTo_S131072x32_S_d0_1 h_S_) : (⟨S131072x32, .f32⟩ : BufTy).Contents (Elt F) → (⟨S_, .f32⟩ : BufTy).Contents (Elt F) → (⟨S_, .f32⟩ : BufTy).Contents (Elt F)),
    nullary main_cst_5 (constant S_ .f32 0x4A800000#32),
    binary main_v24 main_cst_5 main_v25 (Host.divf : (⟨S_, .f32⟩ : BufTy).Contents (Elt F) → (⟨S_, .f32⟩ : BufTy).Contents (Elt F) → (⟨S_, .f32⟩ : BufTy).Contents (Elt F)) ]

set_option maxRecDepth 8192 in
/-- `@main` is that list run in order. -/
theorem main_eq (c : Dev nD) : main (F := F) c = seq ops := rfl

/-- No buffer of the program is scoped. -/
theorem scopedRefs_eq : (Finset.univ.filter fun b : Ref sig .tc => b.isScoped) = ∅ := by decide

/-- No counter of the program is scoped. -/
theorem scopedSems_eq : (Finset.univ.filter fun sm : SemLoc sig => sm.isScoped .tc) = ∅ := by decide

set_option maxRecDepth 8192 in
/-- Every operation touches the program's own buffers only. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub ..⟩

set_option maxRecDepth 8192 in
set_option maxHeartbeats 4000000 in
/-- At any float values, from any memory with zero counters, every execution of the reference terminates with
    the four results at the stages' values and both arguments unchanged. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v14)
          = nearest (m ((d.tc : Thread nD τ).loc main_arg0)) (m ((d.tc : Thread nD τ).loc main_arg1))
      ∧ r.2.mem ((d.tc : Thread nD τ).loc main_v17)
          = straight (m ((d.tc : Thread nD τ).loc main_arg0))
              (lookup (m ((d.tc : Thread nD τ).loc main_arg1))
                (nearest (m ((d.tc : Thread nD τ).loc main_arg0)) (m ((d.tc : Thread nD τ).loc main_arg1))))
      ∧ r.2.mem ((d.tc : Thread nD τ).loc main_v21)
          = meanSq
              (lookup (m ((d.tc : Thread nD τ).loc main_arg1))
                (nearest (m ((d.tc : Thread nD τ).loc main_arg0)) (m ((d.tc : Thread nD τ).loc main_arg1))))
              (m ((d.tc : Thread nD τ).loc main_arg0))
      ∧ r.2.mem ((d.tc : Thread nD τ).loc main_v25)
          = meanSq (m ((d.tc : Thread nD τ).loc main_arg0))
              (lookup (m ((d.tc : Thread nD τ).loc main_arg1))
                (nearest (m ((d.tc : Thread nD τ).loc main_arg0)) (m ((d.tc : Thread nD τ).loc main_arg1))))
      ∧ r.2.mem ((d.tc : Thread nD τ).loc main_arg0) = m ((d.tc : Thread nD τ).loc main_arg0)
      ∧ r.2.mem ((d.tc : Thread nD τ).loc main_arg1) = m ((d.tc : Thread nD τ).loc main_arg1) :=
  (θ_run defs _ _).mono (fun _ h d => ⟨
      (h d main_v14).trans (by simp only [ops, TRef.binary, TRef.nullary, TRef.ternary, TRef.quaternary, TRef.unary, TRef.toBuf, TRef.ofBuf, cast_eq]; after_results_simp <;> rfl),
      (h d main_v17).trans (by simp only [ops, TRef.binary, TRef.nullary, TRef.ternary, TRef.quaternary, TRef.unary, TRef.toBuf, TRef.ofBuf, cast_eq]; after_results_simp <;> rfl),
      (h d main_v21).trans (by simp only [ops, TRef.binary, TRef.nullary, TRef.ternary, TRef.quaternary, TRef.unary, TRef.toBuf, TRef.ofBuf, cast_eq]; after_results_simp <;> rfl),
      (h d main_v25).trans (by simp only [ops, TRef.binary, TRef.nullary, TRef.ternary, TRef.quaternary, TRef.unary, TRef.toBuf, TRef.ofBuf, cast_eq]; after_results_simp <;> rfl),
      (h d main_arg0).trans (by simp only [ops, TRef.binary, TRef.nullary, TRef.ternary, TRef.quaternary, TRef.unary, TRef.toBuf, TRef.ofBuf, cast_eq]; after_results_simp <;> rfl),
      (h d main_arg1).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.RefRun

end
-- ==== Proof.RefDist.lean ====
/- The reference's table of distances read at an index, on the extended reals: entry (i, k) is the squared
   distance of point i and codeword k. -/
module

public import proofs.«01_k».proof.Proof.RefRun
public import proofs.«01_k».proof.Proof.ArgMin
public import Idealize.ShloMosaic.Lib.ValueIdx
public import Idealize.ShloMosaic.Lib.Pipeline.Value

@[expose] public section

noncomputable section

namespace Cert.RefValue

open Cert.ReferenceIdeal Cert.ReferenceIdeal.Gen Cert.RefRun Cert.Spec Cert.ArgMin
open Idealize.ShloMosaic
open Idealize.ShloMosaic.ValueIdx
open scoped BigOperators

/-- The programs' literal 2 as an extended real. -/
abbrev two : EReal := Ideal.ofBits .f32 0x40000000#32

/-- Row `i` of the points. -/
abbrev point (x : Vec Ideal S131072x32 .f32) (i : Fin 131072) : Fin 32 → EReal := fun e => x (ix2 i e)

/-- Codeword `k`. -/
abbrev word (c : Vec Ideal S1024x32 .f32) (k : Fin 1024) : Fin 32 → EReal := fun e => c (ix2 k e)

/-- The distances of point `i` to all codewords. -/
abbrev dists (x : Vec Ideal S131072x32 .f32) (c : Vec Ideal S1024x32 .f32) (i : Fin 131072) : Fin 1024 → EReal :=
  fun k => dist two (point x i) (word c k)

/-- The sum of squares of a row of the points. -/
theorem sumsq_point (x : Vec Ideal S131072x32 .f32) (i : Fin 131072) :
    pointSq x (ix1 i) = ∑ e, point x i e * point x i e := by
  unfold pointSq
  simp only [Host.reduceAdd, Ideal.hostReduceAdd_def]
  rw [Ideal.hostReduceAdd_single reducesTo_S131072x32_S131072_d1 (by decide), constant_apply, Ideal.ofBits_zero_f32, zero_add]
  refine Finset.sum_congr rfl fun k _ => ?_
  exact congrArg (fun j => x j * x j) (funext fun a => Fin.ext (by match a with | ⟨0, _⟩ => rfl | ⟨1, _⟩ => rfl))

/-- The sum of squares of a codeword. -/
theorem sumsq_word (c : Vec Ideal S1024x32 .f32) (k : Fin 1024) :
    wordSq c (ix1 k) = ∑ e, word c k e * word c k e := by
  unfold wordSq
  simp only [Host.reduceAdd, Ideal.hostReduceAdd_def]
  rw [Ideal.hostReduceAdd_single reducesTo_S1024x32_S1024_d1 (by decide), constant_apply, Ideal.ofBits_zero_f32, zero_add]
  refine Finset.sum_congr rfl fun e _ => ?_
  exact congrArg (fun j => c j * c j) (funext fun a => Fin.ext (by match a with | ⟨0, _⟩ => rfl | ⟨1, _⟩ => rfl))

/-- The product of the points with the transposed codebook at (i, k): the inner product of point and codeword. -/
theorem scores_apply (x : Vec Ideal S131072x32 .f32) (c : Vec Ideal S1024x32 .f32) (i : Fin 131072) (k : Fin 1024) :
    scores x c (ix2 i k) = ∑ e, point x i e * word c k e := by
  unfold scores
  simp only [Host.dotGeneral]
  rw [Ideal.dotGeneral_apply, ← Equiv.sum_comp (contrEquiv1 dot_S131072x32_S32x1024_S131072x1024_1_0_0_1_n_n 32 rfl rfl).symm]
  refine Finset.sum_congr rfl fun e _ => ?_
  have he := contrEquiv1_symm_val dot_S131072x32_S32x1024_S131072x1024_1_0_0_1_n_n 32 rfl rfl e
  have el : dot_S131072x32_S32x1024_S131072x1024_1_0_0_1_n_n.lhsIdx (ix2 i k)
      ((contrEquiv1 dot_S131072x32_S32x1024_S131072x1024_1_0_0_1_n_n 32 rfl rfl).symm e) = ix2 i e := funext fun a => Fin.ext (by
    match a with
    | ⟨0, _⟩ =>
      show (dot_S131072x32_S32x1024_S131072x1024_1_0_0_1_n_n.lhsIdx _ _ 0).val = i.val
      unfold DotDims.lhsIdx
      rw [dif_neg (show ¬(0 : Fin S131072x32.rank) ∈ dot_S131072x32_S32x1024_S131072x1024_1_0_0_1_n_n.lhsBatch by decide),
        dif_pos (show (0 : Fin S131072x32.rank) ∈ dot_S131072x32_S32x1024_S131072x1024_1_0_0_1_n_n.lhsNonContracting by decide)]
      rfl
    | ⟨1, _⟩ => exact (DotDims.lhsIdx_val_of_single _ rfl _ _).trans he)
  have er : dot_S131072x32_S32x1024_S131072x1024_1_0_0_1_n_n.rhsIdx (ix2 i k)
      ((contrEquiv1 dot_S131072x32_S32x1024_S131072x1024_1_0_0_1_n_n 32 rfl rfl).symm e) = ix2 e k := funext fun a => Fin.ext (by
    match a with
    | ⟨0, _⟩ => exact (DotDims.rhsIdx_val_of_single _ rfl _ _).trans he
    | ⟨1, _⟩ =>
      show (dot_S131072x32_S32x1024_S131072x1024_1_0_0_1_n_n.rhsIdx _ _ 1).val = k.val
      unfold DotDims.rhsIdx
      rw [dif_neg (show ¬(1 : Fin S32x1024.rank) ∈ dot_S131072x32_S32x1024_S131072x1024_1_0_0_1_n_n.rhsBatch by decide),
        dif_pos (show (1 : Fin S32x1024.rank) ∈ dot_S131072x32_S32x1024_S131072x1024_1_0_0_1_n_n.rhsNonContracting by decide)]
      rfl)
  rw [el, er]
  refine congrArg (x (ix2 i e) * ·) ?_
  exact transpose_apply [1, 0] c transposes_S1024x32_S32x1024_1_0 (ix2 e k) (ix2 k e) (fun b => match b with
    | ⟨0, _⟩ => rfl
    | ⟨1, _⟩ => rfl)

/-- One number per point at (i, k): point i's. -/
theorem alongRows_apply (y : Vec Ideal S131072 .f32) (i : Fin 131072) (k : Fin 1024) :
    alongRows y (ix2 i k) = y (ix1 i) := by
  unfold alongRows
  rw [broadcastInDim_apply _ bcast_S131072x1_S131072x1024_0_1 _ (ix2 i k) (ix2 i (0 : Fin 1)) (fun a => match a with
    | ⟨0, _⟩ => by show i.val = if (131072 : Nat) = 1 then 0 else i.val; rw [if_neg (by decide)]
    | ⟨1, _⟩ => by show 0 = if (1 : Nat) = 1 then 0 else k.val; rw [if_pos rfl])]
  exact broadcastInDim_apply _ bcast_S131072_S131072x1_0 y (ix2 i (0 : Fin 1)) (ix1 i) (fun a => match a with
    | ⟨0, _⟩ => by show i.val = if (131072 : Nat) = 1 then 0 else i.val; rw [if_neg (by decide)])

/-- One number per codeword at (i, k): codeword k's. -/
theorem downColumns_apply (y : Vec Ideal S1024 .f32) (i : Fin 131072) (k : Fin 1024) :
    downColumns y (ix2 i k) = y (ix1 k) := by
  unfold downColumns
  rw [broadcastInDim_apply _ bcast_S1x1024_S131072x1024_0_1 _ (ix2 i k) (ix2 (0 : Fin 1) k) (fun a => match a with
    | ⟨0, _⟩ => by show 0 = if (1 : Nat) = 1 then 0 else i.val; rw [if_pos rfl]
    | ⟨1, _⟩ => by show k.val = if (1024 : Nat) = 1 then 0 else k.val; rw [if_neg (by decide)])]
  exact broadcastInDim_apply _ bcast_S1024_S1x1024_1 y (ix2 (0 : Fin 1) k) (ix1 k) (fun a => match a with
    | ⟨0, _⟩ => by show k.val = if (1024 : Nat) = 1 then 0 else k.val; rw [if_neg (by decide)])

/-- Entry (i, k) of the table is the distance of point i and codeword k. -/
theorem distances_apply (x : Vec Ideal S131072x32 .f32) (c : Vec Ideal S1024x32 .f32) (i : Fin 131072) (k : Fin 1024) :
    distances x c (ix2 i k) = dists x c i k := by
  unfold distances
  rw [subf_apply, addf_apply, mulf_apply, scores_apply, alongRows_apply, downColumns_apply, sumsq_point, sumsq_word]
  rfl

end Cert.RefValue

end
-- ==== Proof.RefValue.lean ====
/- The reference's stages read at an index, on the extended reals: the index of the nearest codeword, the codeword looked up, and the mean squared difference. -/
module

public import proofs.«01_k».proof.Proof.RefDist
public import proofs.«01_k».proof.Proof.ArgMin
public import Idealize.ShloMosaic.Lib.ValueIdx
public import Idealize.ShloMosaic.Lib.Routing.Ops

@[expose] public section

noncomputable section

namespace Cert.RefValue

open Cert.ReferenceIdeal Cert.ReferenceIdeal.Gen Cert.RefRun Cert.Spec Cert.ArgMin
open Idealize.ShloMosaic
open Idealize.ShloMosaic.ValueIdx
open scoped BigOperators

/-- The index the reference finds for point i is the first at which its distance is least. -/
theorem nearest_apply (x : Vec Ideal S131072x32 .f32) (c : Vec Ideal S1024x32 .f32) (i : Fin 131072) :
    nearest x c (ix1 i) = BitVec.ofNat 32 (firstMin (dists x c i)).val := by
  have hr : Shape.Reduces S131072x1024 [1] S131072 := by decide
  have hl : ∀ k : Fin 1024, hr.lift (ix1 i) k = ix2 i k := fun k =>
    funext fun a => Fin.ext (by match a with | ⟨0, _⟩ => rfl | ⟨1, _⟩ => rfl)
  have hn : nearest x c = fun j => (Host.argReduce reducer_argmin_f32_i32 (distances x c) (iotaInDim S131072x1024 32 1)
      (constant (F := Ideal) S_ .f32 0x7F800000#32) (constantI S_ 32 0#32) reducesTo_S131072x1024_S131072_d1 h_S_ j).2 := rfl
  refine (congrFun hn (ix1 i)).trans ?_
  refine argReduce_index (distances x c) (iotaInDim S131072x1024 32 1) _ _ _ _ hr (ix1 i) (dists x c i) ofBits_inf rfl rfl
    (fun k => ?_) (fun k => ?_)
  · exact (congrArg (distances x c) (hl k)).trans (distances_apply x c i k)
  · exact (congrArg (iotaInDim S131072x1024 32 1) (hl k)).trans rfl

/-- A word that holds an index below 1024 is not negative. -/
theorem slt_zero (k : Fin 1024) : IntOp.cmpi .slt (BitVec.ofNat 32 k.val) 0#32 = 0#1 := by
  have h : (BitVec.ofNat 32 k.val).slt 0#32 = false := by
    refine decide_eq_false ?_
    rw [toInt_index]
    simp
  show BitVec.ofBool ((BitVec.ofNat 32 k.val).slt 0#32) = 0#1
  rw [h]; rfl

/-- Where the index is a codeword's, `take` reads that row number. -/
theorem rowIdx_apply (z : IVec S131072 32) (i : Fin 131072) (k : Fin 1024) (hz : z (ix1 i) = BitVec.ofNat 32 k.val) :
    rowIdx z (ix2 i (0 : Fin 1)) = BitVec.ofNat 32 k.val := by
  unfold rowIdx
  rw [broadcastInDim_apply _ bcast_S131072_S131072x1_0 _ (ix2 i (0 : Fin 1)) (ix1 i) (fun a => match a with
    | ⟨0, _⟩ => by show i.val = if (131072 : Nat) = 1 then 0 else i.val; rw [if_neg (by decide)])]
  rw [select_apply]
  show Scalar.select (IntOp.cmpi .slt (z (ix1 i)) 0#32) _ _ = _
  rw [hz, slt_zero, select_zero]

/-- Where the index is a codeword's, it is in range. -/
theorem rowOk_apply (z : IVec S131072 32) (i : Fin 131072) (k : Fin 1024) (hz : z (ix1 i) = BitVec.ofNat 32 k.val) :
    rowOk z (ix1 i) = 1#1 := by
  unfold rowOk
  have hr : Shape.Reduces S131072x1 [1] S131072 := by decide
  have hl : ∀ j : Fin 1, hr.lift (ix1 i) j = ix2 i (0 : Fin 1) := fun j =>
    funext fun a => Fin.ext (by
      match a with
      | ⟨0, _⟩ => rfl
      | ⟨1, _⟩ => show j.val = 0; omega)
  have hc : ∀ j : Fin 1, (andi
      (cmpi .sge (rowIdx z) (broadcastInDim S131072x1 ![] bcast_S_S131072x1 (constantI S_ 32 0#32)))
      (cmpi .sle (rowIdx z)
        (broadcastInDim S131072x1 ![0, 1] bcast_S1x1_S131072x1_0_1
          (broadcastInDim S1x1 ![1] bcast_S1_S1x1_1 (constantI S1 32 1023#32))))) (hr.lift (ix1 i) j) = 1#1 := fun j => by
    rw [hl]
    show IntOp.andi (IntOp.cmpi .sge (rowIdx z (ix2 i (0 : Fin 1))) 0#32)
      (IntOp.cmpi .sle (rowIdx z (ix2 i (0 : Fin 1))) 1023#32) = 1#1
    rw [rowIdx_apply z i k hz]
    have hk := k.isLt
    have h1 : IntOp.cmpi .sge (BitVec.ofNat 32 k.val) 0#32 = 1#1 := by
      show BitVec.ofBool ((0#32 : BitVec 32).sle (BitVec.ofNat 32 k.val)) = 1#1
      rw [show (0#32 : BitVec 32).sle (BitVec.ofNat 32 k.val) = true from decide_eq_true (by rw [toInt_index]; simp)]
      rfl
    have h2 : IntOp.cmpi .sle (BitVec.ofNat 32 k.val) 1023#32 = 1#1 := by
      show BitVec.ofBool ((BitVec.ofNat 32 k.val).sle 1023#32) = 1#1
      rw [show (BitVec.ofNat 32 k.val).sle 1023#32 = true from decide_eq_true (by
        rw [toInt_index, show (1023#32 : BitVec 32).toInt = 1023 by decide]; omega)]
      rfl
    rw [h1, h2]; rfl
  exact reduce_and_unit _ _ _ _ hr _ rfl hc

/-- Where the index is codeword k's, the row looked up is codeword k. -/
theorem lookup_apply (c : Vec Ideal S1024x32 .f32) (z : IVec S131072 32) (i : Fin 131072) (k : Fin 1024)
    (hz : z (ix1 i) = BitVec.ofNat 32 k.val) (e : Fin 32) : lookup c z (ix2 i e) = word c k e := by
  unfold lookup
  rw [select_apply]
  have hb : broadcastInDim S131072x32 ![0] bcast_S131072_S131072x32_0 (rowOk z) (ix2 i e) = rowOk z (ix1 i) :=
    broadcastInDim_apply _ bcast_S131072_S131072x32_0 _ (ix2 i e) (ix1 i) (fun a => match a with
      | ⟨0, _⟩ => by show i.val = if (131072 : Nat) = 1 then 0 else i.val; rw [if_neg (by decide)])
  rw [hb, rowOk_apply z i k hz, select_one]
  exact Routing.gather_row gather_S1024x32_S131072x1_S131072x32_1_0_n_n_0_1_132 rfl rfl rfl rfl rfl
    c (rowIdx z) i e k (rowIdx_apply z i k hz) (by norm_num)

/-- The codeword looked up for point i is its nearest one. -/
theorem quantized_apply (x : Vec Ideal S131072x32 .f32) (c : Vec Ideal S1024x32 .f32) (i : Fin 131072) (e : Fin 32) :
    lookup c (nearest x c) (ix2 i e) = word c (firstMin (dists x c i)) e :=
  lookup_apply c _ i _ (nearest_apply x c i) e

/-- The sum of squared differences runs over all points and their entries. -/
theorem sqSum_apply (a b : Vec Ideal S131072x32 .f32) (j : S_.Idx) :
    sqSum a b j = ∑ i : Fin 131072, ∑ e : Fin 32, (a (ix2 i e) - b (ix2 i e)) * (a (ix2 i e) - b (ix2 i e)) := by
  unfold sqSum
  simp only [Host.reduceAdd, Ideal.hostReduceAdd_def]
  rw [Ideal.hostReduceAdd_total reducesTo_S131072x32_S_d0_1 (fun b => b.elim0), constant_apply, Ideal.ofBits_zero_f32,
    zero_add, sum_idx2]
  rfl

/-- The mean squared difference: the sum over all entries, divided by the count. -/
theorem meanSq_apply (a b : Vec Ideal S131072x32 .f32) (j : S_.Idx) :
    meanSq a b j = Ideal.div (sqSum a b j) (Ideal.ofBits .f32 0x4A800000#32) := rfl

end Cert.RefValue

end
-- ==== Proof.Equation.lean ====
/- The equation: at one pair of arguments the reference's four results are the kernel's. -/
module

public import proofs.«01_k».proof.Proof.KerRun
public import proofs.«01_k».proof.Proof.RefValue

@[expose] public section

noncomputable section

namespace Cert.Equation

open Cert.Spec Cert.RefRun Cert.RefValue Cert.KerIn Cert.KerValue Cert.KerRun
open Idealize.ShloMosaic
open Idealize.ShloMosaic.ValueIdx
open scoped BigOperators

variable (x : Vec Ideal Cert.ReferenceIdeal.S131072x32 .f32) (c : Vec Ideal Cert.ReferenceIdeal.S1024x32 .f32)

/-- The reference's nearest codeword is the kernel's. -/
theorem near_eq (i : Fin 131072) : firstMin (dists x c i) = near x c i := rfl

/-- The reference's indices are the kernel's. -/
theorem indices_eq : nearest x c = indices x c := by
  funext j
  obtain ⟨i, rfl⟩ : ∃ i : Fin 131072, ix1 i = j := ⟨j 0, funext fun a => by fin_cases a; rfl⟩
  exact (nearest_apply x c i).trans (by rw [near_eq]; rfl)

/-- The reference's straight-through output is the kernel's. -/
theorem through_eq : straight x (lookup c (nearest x c)) = through x c := by
  funext j
  obtain ⟨i, e, rfl⟩ : ∃ (i : Fin 131072) (e : Fin 32), ix2 i e = j := ⟨j 0, j 1, funext fun a => by fin_cases a <;> rfl⟩
  have h := quantized_apply x c i e
  rw [near_eq] at h
  show x (ix2 i e) + (lookup c (nearest x c) (ix2 i e) - x (ix2 i e)) = _
  rw [h]
  rfl

/-- A sum over all points is the sum over the 128 blocks of the sums over their rows. -/
theorem sum_blocks (f : Fin 131072 → EReal) :
    ∑ i, f i = ∑ k : Fin 128, ∑ r : Fin 1024,
      f (at_ ⟨k.val, lt_of_lt_of_eq k.isLt Cert.KernelIdeal.Gen.N_0.symm⟩ r) := by
  rw [← Fintype.sum_prod_type']
  refine (Equiv.sum_comp (finProdFinEquiv (m := 128) (n := 1024)) f).symm.trans ?_
  refine Finset.sum_congr rfl fun p _ => congrArg f (Fin.ext ?_)
  show p.2.val + 1024 * p.1.val = 1024 * p.1.val + p.2.val
  omega

/-- The sum of the squared gaps over all points is the kernel's sum after the last block. -/
theorem sum_gap : ∑ i : Fin 131072, ∑ e : Fin 32, gap x c i e * gap x c i e = sumTo x c 127 last.isLt :=
  sum_blocks fun i => ∑ e : Fin 32, gap x c i e * gap x c i e

/-- The reference's first loss is the kernel's. -/
theorem loss_eq : meanSq (lookup c (nearest x c)) x = loss x c := by
  funext j
  rw [meanSq_apply, sqSum_apply]
  refine congrArg (fun s => Ideal.div s (Ideal.ofBits .f32 0x4A800000#32)) ?_
  rw [← sum_gap]
  refine Finset.sum_congr rfl fun i _ => Finset.sum_congr rfl fun e _ => ?_
  rw [quantized_apply, near_eq]
  rfl

/-- The reference's second loss, the same differences taken the other way round, is the kernel's too. -/
theorem loss_eq' : meanSq x (lookup c (nearest x c)) = loss x c := by
  rw [← loss_eq]
  funext j
  rw [meanSq_apply, meanSq_apply, sqSum_apply, sqSum_apply]
  refine congrArg (fun s => Ideal.div s (Ideal.ofBits .f32 0x4A800000#32)) ?_
  exact Finset.sum_congr rfl fun i _ => Finset.sum_congr rfl fun e _ => sub_mul_sub_comm _ _

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- The reference terminates with its arguments unchanged and every counter at zero (it has no semaphore). -/
theorem reference_frame : Cert.quiescent_ReferenceIdeal := fun m g _ =>
  (θ_run Cert.ReferenceIdeal.defs _ _).mono
    (fun r h => ⟨fun c => (h c).2.2.2.2, Idealize.ShloMosaic.sem_eq_zero_of_no_sems (by decide) r.2⟩)
    (Cert.RefRun.run (F := Ideal) m g)

/-- From agreeing arguments the kernel and the reference end with four equal results each. -/
theorem values : Cert.algebraic_KernelIdeal_ReferenceIdeal := by
  intro m g m' g' _ hagree
  refine ⟨fun c => Cert.KerValue.indices (Cert.KerIn.X m c) (Cert.KerIn.C m c),
    fun c => Cert.KerValue.through (Cert.KerIn.X m c) (Cert.KerIn.C m c),
    fun c => Cert.KerRun.loss (Cert.KerIn.X m c) (Cert.KerIn.C m c),
    fun c => Cert.KerRun.loss (Cert.KerIn.X m c) (Cert.KerIn.C m c), ?_, ?_⟩
  · refine (θ_run Cert.KernelIdeal.defs _ _).mono (fun _ h c => ?_) (Cert.KerRun.run m g)
    obtain ⟨h0, h1, h2, ha, hb⟩ := h c
    exact ⟨h0, h1, h2, h2, ha, hb⟩
  · refine (θ_run Cert.ReferenceIdeal.defs _ _).mono (fun _ h c => ?_) (Cert.RefRun.run (F := Ideal) m' g')
    obtain ⟨h0, h1, h2, h3, ha, hb⟩ := h c
    obtain ⟨e0, e1⟩ := hagree c
    rw [e0, e1] at h0 h1 h2 h3
    exact ⟨h0.trans (Cert.Equation.indices_eq _ _), h1.trans (Cert.Equation.through_eq _ _),
      h2.trans (Cert.Equation.loss_eq _ _), h3.trans (Cert.Equation.loss_eq' _ _), ha, hb⟩

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, values⟩

end Cert.Proof

end
